-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_edges_in_range [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_edges_in_range [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v225)) (v1 : (c : Dev Cert.KernelIdeal.nD) → Buf (Elt Ideal) ((c.tc : Thread Cert.KernelIdeal.nD Cert.KernelIdeal.τ).loc Cert.KernelIdeal.main_v226)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_v226) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_v224) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel)
    ∧ quiescent_KernelIdeal (hKernelIdeal := hKernelIdeal)
    ∧ quiescent_KernelIdeal_pre_edges_in_range (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal_pre_edges_in_range (hKernelIdeal := hKernelIdeal) (hReferenceIdeal := hReferenceIdeal) (hPre_edges_in_range := hPre_edges_in_range)
-- ==== Pre_edges_in_range.lean ====
abbrev S1x4096x33 : Shape := ⟨3, ![1, 4096, 33]⟩
abbrev S131072 : Shape := ⟨1, ![131072]⟩
abbrev S32x33 : Shape := ⟨2, ![32, 33]⟩
abbrev S32 : Shape := ⟨1, ![32]⟩
abbrev S32x32 : Shape := ⟨2, ![32, 32]⟩
abbrev S192x32 : Shape := ⟨2, ![192, 32]⟩
abbrev S192 : Shape := ⟨1, ![192]⟩
abbrev S192x64 : Shape := ⟨2, ![192, 64]⟩
abbrev S64x128 : Shape := ⟨2, ![64, 128]⟩
abbrev S64 : Shape := ⟨1, ![64]⟩
abbrev S1x64 : Shape := ⟨2, ![1, 64]⟩
abbrev S1 : Shape := ⟨1, ![1]⟩
abbrev S32x64 : Shape := ⟨2, ![32, 64]⟩
abbrev S4x8 : Shape := ⟨2, ![4, 8]⟩
abbrev S4096x32 : Shape := ⟨2, ![4096, 32]⟩
abbrev S_ : Shape := ⟨0, ![]⟩

class Facts : Prop where
  shapeCasts_S4096x32_S131072 : S4096x32.ShapeCasts S131072
  bcast_S_S131072 : S_.BroadcastsInDim S131072 (![] : Fin 0 → Fin S131072.rank)

variable [Facts]

def fn {F : FTy → Type} [FloatOps F] (main_arg0 : FVec F S1x4096x33 .f32) (main_arg1 : IVec S131072 32) (main_arg2 : IVec S131072 32) (main_arg3 : FVec F S32x33 .f32) (main_arg4 : FVec F S32 .f32) (main_arg5 : FVec F S32x32 .f32) (main_arg6 : FVec F S32 .f32) (main_arg7 : FVec F S32 .f32) (main_arg8 : FVec F S32 .f32) (main_arg9 : FVec F S192x32 .f32) (main_arg10 : FVec F S192 .f32) (main_arg11 : FVec F S192x64 .f32) (main_arg12 : FVec F S192 .f32) (main_arg13 : FVec F S64x128 .f32) (main_arg14 : FVec F S64 .f32) (main_arg15 : FVec F S1x64 .f32) (main_arg16 : FVec F S1 .f32) (main_arg17 : FVec F S32x64 .f32) (main_arg18 : FVec F S4x8 .f32) (main_arg19 : FVec F S4x8 .f32) (main_arg20 : FVec F S32 .f32) : IVec S131072 1 :=
  let main_v0 : IVec S4096x32 32 := iotaInDim S4096x32 32 0
  let main_v1 : IVec S131072 32 := shapeCast S131072 main_v0 shapeCasts_S4096x32_S131072
  let main_v2 : IVec S131072 1 := cmpi .eq main_arg1 main_v1
  let main_c : IVec S_ 32 := constantI S_ 32 0#32
  let main_v3 : IVec S131072 32 := broadcastInDim S131072 ![] bcast_S_S131072 main_c
  let main_v4 : IVec S131072 1 := cmpi .sge main_arg2 main_v3
  let main_v5 : IVec S131072 1 := andi main_v2 main_v4
  let main_c_0 : IVec S_ 32 := constantI S_ 32 4096#32
  let main_v6 : IVec S131072 32 := broadcastInDim S131072 ![] bcast_S_S131072 main_c_0
  let main_v7 : IVec S131072 1 := cmpi .slt main_arg2 main_v6
  let main_v8 : IVec S131072 1 := andi main_v5 main_v7
  main_v8
-- ==== Kernel.lean ====
abbrev S1x4096x33 : Shape := ⟨3, ![1, 4096, 33]⟩
abbrev S131072 : Shape := ⟨1, ![131072]⟩
abbrev S32x33 : Shape := ⟨2, ![32, 33]⟩
abbrev S32 : Shape := ⟨1, ![32]⟩
abbrev S32x32 : Shape := ⟨2, ![32, 32]⟩
abbrev S192x32 : Shape := ⟨2, ![192, 32]⟩
abbrev S192 : Shape := ⟨1, ![192]⟩
abbrev S192x64 : Shape := ⟨2, ![192, 64]⟩
abbrev S64x128 : Shape := ⟨2, ![64, 128]⟩
abbrev S64 : Shape := ⟨1, ![64]⟩
abbrev S1x64 : Shape := ⟨2, ![1, 64]⟩
abbrev S1 : Shape := ⟨1, ![1]⟩
abbrev S32x64 : Shape := ⟨2, ![32, 64]⟩
abbrev S4x8 : Shape := ⟨2, ![4, 8]⟩
abbrev S4096x33 : Shape := ⟨2, ![4096, 33]⟩
abbrev S_ : Shape := ⟨0, ![]⟩
abbrev S32x4 : Shape := ⟨2, ![32, 4]⟩
abbrev S32x1 : Shape := ⟨2, ![32, 1]⟩
abbrev S32x2 : Shape := ⟨2, ![32, 2]⟩
abbrev S33x32 : Shape := ⟨2, ![33, 32]⟩
abbrev S1x32 : Shape := ⟨2, ![1, 32]⟩
abbrev S32x192 : Shape := ⟨2, ![32, 192]⟩
abbrev S1x192 : Shape := ⟨2, ![1, 192]⟩
abbrev S64x64 : Shape := ⟨2, ![64, 64]⟩
abbrev S64x32 : Shape := ⟨2, ![64, 32]⟩
abbrev S4096x64 : Shape := ⟨2, ![4096, 64]⟩
abbrev S4096x32 : Shape := ⟨2, ![4096, 32]⟩
abbrev S4096x4 : Shape := ⟨2, ![4096, 4]⟩
abbrev S4096 : Shape := ⟨1, ![4096]⟩
abbrev S4096x1 : Shape := ⟨2, ![4096, 1]⟩
abbrev S4096x192 : Shape := ⟨2, ![4096, 192]⟩
abbrev S1x4096x32 : Shape := ⟨3, ![1, 4096, 32]⟩
abbrev S1x1x32 : Shape := ⟨3, ![1, 1, 32]⟩
abbrev S1x4096 : Shape := ⟨2, ![1, 4096]⟩
abbrev S1x4096x1 : Shape := ⟨3, ![1, 4096, 1]⟩
abbrev S4096x32x64 : Shape := ⟨3, ![4096, 32, 64]⟩
abbrev S131072x64 : Shape := ⟨2, ![131072, 64]⟩
abbrev S131072x1 : Shape := ⟨2, ![131072, 1]⟩
abbrev S131072x128 : Shape := ⟨2, ![131072, 128]⟩
abbrev S128x64 : Shape := ⟨2, ![128, 64]⟩
abbrev S64x1 : Shape := ⟨2, ![64, 1]⟩
abbrev S1x1 : Shape := ⟨2, ![1, 1]⟩
abbrev S4096x1x1 : Shape := ⟨3, ![4096, 1, 1]⟩
abbrev S1x1x1 : Shape := ⟨3, ![1, 1, 1]⟩
abbrev S4096x4x4 : Shape := ⟨3, ![4096, 4, 4]⟩
abbrev S16384x4 : Shape := ⟨2, ![16384, 4]⟩
abbrev S4096x4x32 : Shape := ⟨3, ![4096, 4, 32]⟩
abbrev S16384x32 : Shape := ⟨2, ![16384, 32]⟩
abbrev S16384x1 : Shape := ⟨2, ![16384, 1]⟩
abbrev S1x16384 : Shape := ⟨2, ![1, 16384]⟩
abbrev S4x4 : Shape := ⟨2, ![4, 4]⟩
abbrev S4x4x8 : Shape := ⟨3, ![4, 4, 8]⟩
abbrev S4x32 : Shape := ⟨2, ![4, 32]⟩
abbrev S1024x1 : Shape := ⟨2, ![1024, 1]⟩
abbrev S1024x4 : Shape := ⟨2, ![1024, 4]⟩
abbrev S1024x4096 : Shape := ⟨2, ![1024, 4096]⟩
abbrev S1x16384x4 : Shape := ⟨3, ![1, 16384, 4]⟩
abbrev S256x4 : Shape := ⟨2, ![256, 4]⟩
abbrev S256x32 : Shape := ⟨2, ![256, 32]⟩
abbrev S256x16384 : Shape := ⟨2, ![256, 16384]⟩
abbrev S1024x1024 : Shape := ⟨2, ![1024, 1024]⟩
abbrev S4096x16 : Shape := ⟨2, ![4096, 16]⟩
abbrev S4x4096x4096 : Shape := ⟨3, ![4, 4096, 4096]⟩
abbrev S128x4 : Shape := ⟨2, ![128, 4]⟩
abbrev S128x16 : Shape := ⟨2, ![128, 16]⟩
abbrev S4x128x4096 : Shape := ⟨3, ![4, 128, 4096]⟩
abbrev S128x4096 : Shape := ⟨2, ![128, 4096]⟩
abbrev S128x1 : Shape := ⟨2, ![128, 1]⟩
abbrev S1x128x4096 : Shape := ⟨3, ![1, 128, 4096]⟩
abbrev S1x4x4096x4096 : Shape := ⟨4, ![1, 4, 4096, 4096]⟩

abbrev nBuf : Space → Nat
  | .hbm => 419
  | .vmem => 58
  | .smem => 0
  | _ => 0

abbrev hbmTy0_0 (i : Nat) : BufTy := match i % 128 with
  | 0 => ⟨S1x4096x33, .f32⟩
  | 1 => ⟨S131072, .i32⟩
  | 2 => ⟨S131072, .i32⟩
  | 3 => ⟨S32x33, .f32⟩
  | 4 => ⟨S32, .f32⟩
  | 5 => ⟨S32x32, .f32⟩
  | 6 => ⟨S32, .f32⟩
  | 7 => ⟨S32, .f32⟩
  | 8 => ⟨S32, .f32⟩
  | 9 => ⟨S192x32, .f32⟩
  | 10 => ⟨S192, .f32⟩
  | 11 => ⟨S192x64, .f32⟩
  | 12 => ⟨S192, .f32⟩
  | 13 => ⟨S64x128, .f32⟩
  | 14 => ⟨S64, .f32⟩
  | 15 => ⟨S1x64, .f32⟩
  | 16 => ⟨S1, .f32⟩
  | 17 => ⟨S32x64, .f32⟩
  | 18 => ⟨S4x8, .f32⟩
  | 19 => ⟨S4x8, .f32⟩
  | 20 => ⟨S32, .f32⟩
  | 21 => ⟨S4096x33, .f32⟩
  | 22 => ⟨S_, .f32⟩
  | 23 => ⟨S32x4, .f32⟩
  | 24 => ⟨S_, .f32⟩
  | 25 => ⟨S32x4, .f32⟩
  | 26 => ⟨S32, .i32⟩
  | 27 => ⟨S_, .i32⟩
  | 28 => ⟨S_, .i32⟩
  | 29 => ⟨S32, .i32⟩
  | 30 => ⟨S32, .i32⟩
  | 31 => ⟨S32, .i32⟩
  | 32 => ⟨S_, .i32⟩
  | 33 => ⟨S32, .i32⟩
  | 34 => ⟨S32, .i1⟩
  | 35 => ⟨S32, .i32⟩
  | 36 => ⟨S32, .i32⟩
  | 37 => ⟨S_, .i32⟩
  | 38 => ⟨S32, .i32⟩
  | 39 => ⟨S32, .i1⟩
  | 40 => ⟨S32, .i1⟩
  | 41 => ⟨S_, .i32⟩
  | 42 => ⟨S32, .i32⟩
  | 43 => ⟨S32, .i32⟩
  | 44 => ⟨S32, .i32⟩
  | 45 => ⟨S32, .i32⟩
  | 46 => ⟨S32, .f32⟩
  | 47 => ⟨S_, .i32⟩
  | 48 => ⟨S32, .i32⟩
  | 49 => ⟨S32, .i1⟩
  | 50 => ⟨S_, .i32⟩
  | 51 => ⟨S32, .i32⟩
  | 52 => ⟨S32, .i32⟩
  | 53 => ⟨S32, .i32⟩
  | 54 => ⟨S_, .i32⟩
  | 55 => ⟨S32, .i32⟩
  | 56 => ⟨S32, .i1⟩
  | 57 => ⟨S_, .i32⟩
  | 58 => ⟨S32, .i32⟩
  | 59 => ⟨S32, .i32⟩
  | 60 => ⟨S32, .i32⟩
  | 61 => ⟨S32x1, .i32⟩
  | 62 => ⟨S32x1, .i32⟩
  | 63 => ⟨S32x2, .i32⟩
  | 64 => ⟨S32x4, .f32⟩
  | 65 => ⟨S32, .i32⟩
  | 66 => ⟨S32, .f32⟩
  | 67 => ⟨S_, .i32⟩
  | 68 => ⟨S32, .i32⟩
  | 69 => ⟨S32, .i1⟩
  | 70 => ⟨S_, .i32⟩
  | 71 => ⟨S32, .i32⟩
  | 72 => ⟨S32, .i32⟩
  | 73 => ⟨S32, .i32⟩
  | 74 => ⟨S_, .i32⟩
  | 75 => ⟨S32, .i32⟩
  | 76 => ⟨S32, .i1⟩
  | 77 => ⟨S_, .i32⟩
  | 78 => ⟨S32, .i32⟩
  | 79 => ⟨S32, .i32⟩
  | 80 => ⟨S32, .i32⟩
  | 81 => ⟨S32x1, .i32⟩
  | 82 => ⟨S32x1, .i32⟩
  | 83 => ⟨S32x2, .i32⟩
  | 84 => ⟨S32x4, .f32⟩
  | 85 => ⟨S33x32, .f32⟩
  | 86 => ⟨S1x32, .f32⟩
  | 87 => ⟨S32x32, .f32⟩
  | 88 => ⟨S1x32, .f32⟩
  | 89 => ⟨S1x32, .f32⟩
  | 90 => ⟨S1x32, .f32⟩
  | 91 => ⟨S32x192, .f32⟩
  | 92 => ⟨S1x192, .f32⟩
  | 93 => ⟨S1x192, .f32⟩
  | 94 => ⟨S64x64, .f32⟩
  | 95 => ⟨S64x64, .f32⟩
  | 96 => ⟨S64x64, .f32⟩
  | 97 => ⟨S64x64, .f32⟩
  | 98 => ⟨S64x32, .f32⟩
  | 99 => ⟨S4096x64, .f32⟩
  | 100 => ⟨S4096x64, .f32⟩
  | 101 => ⟨S4096x64, .f32⟩
  | 102 => ⟨S4096x32, .f32⟩
  | 103 => ⟨S4096x4, .f32⟩
  | 104 => ⟨S4096x4, .f32⟩
  | 105 => ⟨S33x32, .f32⟩
  | 106 => ⟨S1x4096x32, .f32⟩
  | 107 => ⟨S1x1x32, .f32⟩
  | 108 => ⟨S1x4096x32, .f32⟩
  | 109 => ⟨S1x4096x32, .f32⟩
  | 110 => ⟨S_, .f32⟩
  | 111 => ⟨S1x4096x32, .f32⟩
  | 112 => ⟨S1x4096x32, .f32⟩
  | 113 => ⟨S32x32, .f32⟩
  | 114 => ⟨S1x4096x32, .f32⟩
  | 115 => ⟨S1x1x32, .f32⟩
  | 116 => ⟨S1x4096x32, .f32⟩
  | 117 => ⟨S1x4096x32, .f32⟩
  | 118 => ⟨S_, .f32⟩
  | 119 => ⟨S1x4096x32, .f32⟩
  | 120 => ⟨S1x4096x32, .f32⟩
  | 121 => ⟨S_, .f32⟩
  | 122 => ⟨S1x4096, .f32⟩
  | 123 => ⟨S1x4096x1, .f32⟩
  | 124 => ⟨S_, .f32⟩
  | 125 => ⟨S1x4096x1, .f32⟩
  | 126 => ⟨S1x4096x1, .f32⟩
  | 127 => ⟨S1x4096x32, .f32⟩
  | _ => ⟨S1x4096x33, .f32⟩

abbrev hbmTy0_1 (i : Nat) : BufTy := match i % 128 with
  | 0 => ⟨S1x4096x32, .f32⟩
  | 1 => ⟨S1x4096x32, .f32⟩
  | 2 => ⟨S_, .f32⟩
  | 3 => ⟨S1x4096, .f32⟩
  | 4 => ⟨S1x4096x1, .f32⟩
  | 5 => ⟨S_, .f32⟩
  | 6 => ⟨S1x4096x1, .f32⟩
  | 7 => ⟨S1x4096x1, .f32⟩
  | 8 => ⟨S1x4096x32, .f32⟩
  | 9 => ⟨S1x4096x32, .f32⟩
  | 10 => ⟨S_, .f32⟩
  | 11 => ⟨S1x4096x1, .f32⟩
  | 12 => ⟨S1x4096x1, .f32⟩
  | 13 => ⟨S1x4096x1, .f32⟩
  | 14 => ⟨S1x4096x32, .f32⟩
  | 15 => ⟨S1x4096x32, .f32⟩
  | 16 => ⟨S1x1x32, .f32⟩
  | 17 => ⟨S1x4096x32, .f32⟩
  | 18 => ⟨S1x4096x32, .f32⟩
  | 19 => ⟨S1x1x32, .f32⟩
  | 20 => ⟨S1x4096x32, .f32⟩
  | 21 => ⟨S1x4096x32, .f32⟩
  | 22 => ⟨S4096x32, .f32⟩
  | 23 => ⟨S32x192, .f32⟩
  | 24 => ⟨S4096x192, .f32⟩
  | 25 => ⟨S1x192, .f32⟩
  | 26 => ⟨S4096x192, .f32⟩
  | 27 => ⟨S4096x192, .f32⟩
  | 28 => ⟨S4096x64, .f32⟩
  | 29 => ⟨S4096x64, .f32⟩
  | 30 => ⟨S4096x64, .f32⟩
  | 31 => ⟨S4096x192, .f32⟩
  | 32 => ⟨S4096x64, .f32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S_, .f32⟩
  | 39 => ⟨S4096x64, .f32⟩
  | 40 => ⟨S4096x64, .f32⟩
  | 41 => ⟨S_, .f32⟩
  | 42 => ⟨S4096x64, .f32⟩
  | 43 => ⟨S4096x64, .f32⟩
  | 44 => ⟨S4096x64, .f32⟩
  | 45 => ⟨S4096x64, .f32⟩
  | 46 => ⟨S4096x64, .f32⟩
  | 47 => ⟨S_, .f32⟩
  | 48 => ⟨S4096x64, .f32⟩
  | 49 => ⟨S4096x64, .f32⟩
  | 50 => ⟨S_, .f32⟩
  | 51 => ⟨S4096x64, .f32⟩
  | 52 => ⟨S4096x64, .f32⟩
  | 53 => ⟨S4096x64, .f32⟩
  | 54 => ⟨S4096x64, .f32⟩
  | 55 => ⟨S4096x64, .f32⟩
  | 56 => ⟨S_, .f32⟩
  | 57 => ⟨S4096x64, .f32⟩
  | 58 => ⟨S4096x64, .f32⟩
  | 59 => ⟨S4096x64, .f32⟩
  | 60 => ⟨S4096x32x64, .f32⟩
  | 61 => ⟨S131072x64, .f32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x64, .f32⟩
  | 71 => ⟨S131072x128, .f32⟩
  | 72 => ⟨S128x64, .f32⟩
  | 73 => ⟨S131072x64, .f32⟩
  | 74 => ⟨S1x64, .f32⟩
  | 75 => ⟨S131072x64, .f32⟩
  | 76 => ⟨S131072x64, .f32⟩
  | 77 => ⟨S_, .f32⟩
  | 78 => ⟨S131072x64, .f32⟩
  | 79 => ⟨S131072x64, .f32⟩
  | 80 => ⟨S64x1, .f32⟩
  | 81 => ⟨S131072x1, .f32⟩
  | 82 => ⟨S1x1, .f32⟩
  | 83 => ⟨S131072x1, .f32⟩
  | 84 => ⟨S131072x1, .f32⟩
  | 85 => ⟨S131072x1, .f32⟩
  | 86 => ⟨S131072x1, .f32⟩
  | 87 => ⟨S_, .f32⟩
  | 88 => ⟨S131072x1, .f32⟩
  | 89 => ⟨S131072x1, .f32⟩
  | 90 => ⟨S_, .f32⟩
  | 91 => ⟨S131072x1, .f32⟩
  | 92 => ⟨S131072x1, .f32⟩
  | 93 => ⟨S131072, .f32⟩
  | 94 => ⟨S4096x32, .f32⟩
  | 95 => ⟨S4096x32, .i32⟩
  | 96 => ⟨S32, .i32⟩
  | 97 => ⟨S1x32, .i32⟩
  | 98 => ⟨S_, .f32⟩
  | 99 => ⟨S4096, .f32⟩
  | 100 => ⟨S4096x1, .f32⟩
  | 101 => ⟨S4096x32, .f32⟩
  | 102 => ⟨S4096x32, .i1⟩
  | 103 => ⟨S4096x32, .i32⟩
  | 104 => ⟨S4096x32, .i32⟩
  | 105 => ⟨S_, .i32⟩
  | 106 => ⟨S_, .i32⟩
  | 107 => ⟨S4096, .i32⟩
  | 108 => ⟨S4096, .i32⟩
  | 109 => ⟨S4096x1, .i32⟩
  | 110 => ⟨S_, .i32⟩
  | 111 => ⟨S4096x1, .i32⟩
  | 112 => ⟨S4096x1, .i1⟩
  | 113 => ⟨S_, .i32⟩
  | 114 => ⟨S4096x1, .i32⟩
  | 115 => ⟨S4096x1, .i32⟩
  | 116 => ⟨S4096x1, .i32⟩
  | 117 => ⟨S4096x1x1, .i32⟩
  | 118 => ⟨S1, .i32⟩
  | 119 => ⟨S_, .i32⟩
  | 120 => ⟨S4096x1x1, .i32⟩
  | 121 => ⟨S4096x1x1, .i1⟩
  | 122 => ⟨S1x1x1, .i32⟩
  | 123 => ⟨S4096x1x1, .i32⟩
  | 124 => ⟨S4096x1x1, .i1⟩
  | 125 => ⟨S4096x1x1, .i1⟩
  | 126 => ⟨S_, .i1⟩
  | 127 => ⟨S4096x1, .i1⟩
  | _ => ⟨S1x4096x33, .f32⟩

abbrev hbmTy0_2 (i : Nat) : BufTy := match i % 128 with
  | 0 => ⟨S4096x1, .i32⟩
  | 1 => ⟨S_, .i32⟩
  | 2 => ⟨S4096x1, .i32⟩
  | 3 => ⟨S4096x1, .i32⟩
  | 4 => ⟨S4096x32, .i32⟩
  | 5 => ⟨S4096x32, .i32⟩
  | 6 => ⟨S4096x32, .i1⟩
  | 7 => ⟨S_, .f32⟩
  | 8 => ⟨S_, .f32⟩
  | 9 => ⟨S4096x32, .f32⟩
  | 10 => ⟨S4096x32, .f32⟩
  | 11 => ⟨S_, .f32⟩
  | 12 => ⟨S4096, .f32⟩
  | 13 => ⟨S4096x1, .f32⟩
  | 14 => ⟨S4096x32, .f32⟩
  | 15 => ⟨S4096x32, .i1⟩
  | 16 => ⟨S4096x32, .i32⟩
  | 17 => ⟨S4096x32, .i32⟩
  | 18 => ⟨S_, .i32⟩
  | 19 => ⟨S_, .i32⟩
  | 20 => ⟨S4096, .i32⟩
  | 21 => ⟨S4096, .i32⟩
  | 22 => ⟨S4096x1, .i32⟩
  | 23 => ⟨S_, .i32⟩
  | 24 => ⟨S4096x1, .i32⟩
  | 25 => ⟨S4096x1, .i1⟩
  | 26 => ⟨S_, .i32⟩
  | 27 => ⟨S4096x1, .i32⟩
  | 28 => ⟨S4096x1, .i32⟩
  | 29 => ⟨S4096x1, .i32⟩
  | 30 => ⟨S4096x1x1, .i32⟩
  | 31 => ⟨S1, .i32⟩
  | 32 => ⟨S_, .i32⟩
  | 33 => ⟨S4096x1x1, .i32⟩
  | 34 => ⟨S4096x1x1, .i1⟩
  | 35 => ⟨S1x1x1, .i32⟩
  | 36 => ⟨S4096x1x1, .i32⟩
  | 37 => ⟨S4096x1x1, .i1⟩
  | 38 => ⟨S4096x1x1, .i1⟩
  | 39 => ⟨S_, .i1⟩
  | 40 => ⟨S4096x1, .i1⟩
  | 41 => ⟨S4096x1, .i32⟩
  | 42 => ⟨S_, .i32⟩
  | 43 => ⟨S4096x1, .i32⟩
  | 44 => ⟨S4096x1, .i32⟩
  | 45 => ⟨S4096x32, .i32⟩
  | 46 => ⟨S4096x32, .i32⟩
  | 47 => ⟨S4096x32, .i1⟩
  | 48 => ⟨S_, .f32⟩
  | 49 => ⟨S_, .f32⟩
  | 50 => ⟨S4096x32, .f32⟩
  | 51 => ⟨S4096x32, .f32⟩
  | 52 => ⟨S_, .f32⟩
  | 53 => ⟨S4096, .f32⟩
  | 54 => ⟨S4096x1, .f32⟩
  | 55 => ⟨S4096x32, .f32⟩
  | 56 => ⟨S4096x32, .i1⟩
  | 57 => ⟨S4096x32, .i32⟩
  | 58 => ⟨S4096x32, .i32⟩
  | 59 => ⟨S_, .i32⟩
  | 60 => ⟨S_, .i32⟩
  | 61 => ⟨S4096, .i32⟩
  | 62 => ⟨S4096, .i32⟩
  | 63 => ⟨S4096x1, .i32⟩
  | 64 => ⟨S_, .i32⟩
  | 65 => ⟨S4096x1, .i32⟩
  | 66 => ⟨S4096x1, .i1⟩
  | 67 => ⟨S_, .i32⟩
  | 68 => ⟨S4096x1, .i32⟩
  | 69 => ⟨S4096x1, .i32⟩
  | 70 => ⟨S4096x1, .i32⟩
  | 71 => ⟨S4096x1x1, .i32⟩
  | 72 => ⟨S1, .i32⟩
  | 73 => ⟨S_, .i32⟩
  | 74 => ⟨S4096x1x1, .i32⟩
  | 75 => ⟨S4096x1x1, .i1⟩
  | 76 => ⟨S1x1x1, .i32⟩
  | 77 => ⟨S4096x1x1, .i32⟩
  | 78 => ⟨S4096x1x1, .i1⟩
  | 79 => ⟨S4096x1x1, .i1⟩
  | 80 => ⟨S_, .i1⟩
  | 81 => ⟨S4096x1, .i1⟩
  | 82 => ⟨S4096x1, .i32⟩
  | 83 => ⟨S_, .i32⟩
  | 84 => ⟨S4096x1, .i32⟩
  | 85 => ⟨S4096x1, .i32⟩
  | 86 => ⟨S4096x32, .i32⟩
  | 87 => ⟨S4096x32, .i32⟩
  | 88 => ⟨S4096x32, .i1⟩
  | 89 => ⟨S_, .f32⟩
  | 90 => ⟨S_, .f32⟩
  | 91 => ⟨S4096x32, .f32⟩
  | 92 => ⟨S4096x32, .f32⟩
  | 93 => ⟨S_, .f32⟩
  | 94 => ⟨S4096, .f32⟩
  | 95 => ⟨S4096x1, .f32⟩
  | 96 => ⟨S4096x32, .f32⟩
  | 97 => ⟨S4096x32, .i1⟩
  | 98 => ⟨S4096x32, .i32⟩
  | 99 => ⟨S4096x32, .i32⟩
  | 100 => ⟨S_, .i32⟩
  | 101 => ⟨S_, .i32⟩
  | 102 => ⟨S4096, .i32⟩
  | 103 => ⟨S4096, .i32⟩
  | 104 => ⟨S4096x1, .i32⟩
  | 105 => ⟨S_, .i32⟩
  | 106 => ⟨S4096x1, .i32⟩
  | 107 => ⟨S4096x1, .i1⟩
  | 108 => ⟨S_, .i32⟩
  | 109 => ⟨S4096x1, .i32⟩
  | 110 => ⟨S4096x1, .i32⟩
  | 111 => ⟨S4096x1, .i32⟩
  | 112 => ⟨S4096x1x1, .i32⟩
  | 113 => ⟨S1, .i32⟩
  | 114 => ⟨S_, .i32⟩
  | 115 => ⟨S4096x1x1, .i32⟩
  | 116 => ⟨S4096x1x1, .i1⟩
  | 117 => ⟨S1x1x1, .i32⟩
  | 118 => ⟨S4096x1x1, .i32⟩
  | 119 => ⟨S4096x1x1, .i1⟩
  | 120 => ⟨S4096x1x1, .i1⟩
  | 121 => ⟨S_, .i1⟩
  | 122 => ⟨S4096x1, .i1⟩
  | 123 => ⟨S4096x1, .i32⟩
  | 124 => ⟨S_, .i32⟩
  | 125 => ⟨S4096x1, .i32⟩
  | 126 => ⟨S4096x1, .i32⟩
  | 127 => ⟨S4096x32, .i32⟩
  | _ => ⟨S1x4096x33, .f32⟩

abbrev hbmTy0_3 (i : Nat) : BufTy := match i % 128 with
  | 0 => ⟨S4096x32, .i32⟩
  | 1 => ⟨S4096x32, .i1⟩
  | 2 => ⟨S_, .f32⟩
  | 3 => ⟨S_, .f32⟩
  | 4 => ⟨S4096x32, .f32⟩
  | 5 => ⟨S4096x32, .f32⟩
  | 6 => ⟨S4096x4, .f32⟩
  | 7 => ⟨S4096x4, .i32⟩
  | 8 => ⟨S4096x4x4, .f32⟩
  | 9 => ⟨S16384x4, .f32⟩
  | 10 => ⟨S4096x4x32, .f32⟩
  | 11 => ⟨S16384x32, .f32⟩
  | 12 => ⟨S16384x1, .i32⟩
  | 13 => ⟨S1x16384, .i32⟩
  | 14 => ⟨S16384x1, .f32⟩
  | 15 => ⟨S4x4, .i32⟩
  | 16 => ⟨S4x4, .i32⟩
  | 17 => ⟨S_, .i32⟩
  | 18 => ⟨S4x4, .i32⟩
  | 19 => ⟨S4x4, .i32⟩
  | 20 => ⟨S4x4, .i1⟩
  | 21 => ⟨S4x4, .f32⟩
  | 22 => ⟨S4x4x8, .f32⟩
  | 23 => ⟨S4x32, .f32⟩
  | 24 => ⟨S16384x4, .f32⟩
  | 25 => ⟨S16384x4, .f32⟩
  | 26 => ⟨S16384x32, .f32⟩
  | 27 => ⟨S1x32, .f32⟩
  | 28 => ⟨S4096x4, .f32⟩
  | 29 => ⟨S4096x32, .f32⟩
  | 30 => ⟨S16384x4, .f32⟩
  | 31 => ⟨S4096x16, .f32⟩
  | 32 => ⟨S4x4096x4096, .f32⟩
  | 33 => ⟨S1x4096x32, .f32⟩
  | 34 => ⟨S1x4x4096x4096, .f32⟩
  | _ => ⟨S1x4096x33, .f32⟩

abbrev hbmTy (i : Nat) : BufTy := match i / 128 with
  | 0 => hbmTy0_0 i
  | 1 => hbmTy0_1 i
  | 2 => hbmTy0_2 i
  | 3 => hbmTy0_3 i
  | _ => ⟨S1x4096x33, .f32⟩

abbrev bufTy : (tb : Table) → Fin (tcTables nBuf tb) → BufTy
  | .hbm, ⟨i, _⟩ => hbmTy i
  | .local _ .vmem, ⟨0, _⟩ => ⟨S4096x33, .f32⟩
  | .local _ .vmem, ⟨1, _⟩ => ⟨S33x32, .f32⟩
  | .local _ .vmem, ⟨2, _⟩ => ⟨S1x32, .f32⟩
  | .local _ .vmem, ⟨3, _⟩ => ⟨S32x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S32x192, .f32⟩
  | .local _ .vmem, ⟨8, _⟩ => ⟨S1x192, .f32⟩
  | .local _ .vmem, ⟨9, _⟩ => ⟨S1x192, .f32⟩
  | .local _ .vmem, ⟨10, _⟩ => ⟨S64x64, .f32⟩
  | .local _ .vmem, ⟨11, _⟩ => ⟨S64x64, .f32⟩
  | .local _ .vmem, ⟨12, _⟩ => ⟨S64x32, .f32⟩
  | .local _ .vmem, ⟨13, _⟩ => ⟨S32x4, .f32⟩
  | .local _ .vmem, ⟨14, _⟩ => ⟨S32x4, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x32, .f32⟩
  | .local _ .vmem, ⟨19, _⟩ => ⟨S4096x4, .f32⟩
  | .local _ .vmem, ⟨20, _⟩ => ⟨S4096x4, .f32⟩
  | .local _ .vmem, ⟨21, _⟩ => ⟨S1024x1, .i32⟩
  | .local _ .vmem, ⟨22, _⟩ => ⟨S1024x1, .i32⟩
  | .local _ .vmem, ⟨23, _⟩ => ⟨S1024x4, .f32⟩
  | .local _ .vmem, ⟨24, _⟩ => ⟨S1024x4, .f32⟩
  | .local _ .vmem, ⟨25, _⟩ => ⟨S4096x4, .f32⟩
  | .local _ .vmem, ⟨26, _⟩ => ⟨S1024x4, .f32⟩
  | .local _ .vmem, ⟨27, _⟩ => ⟨S1024x4, .f32⟩
  | .local _ .vmem, ⟨28, _⟩ => ⟨S16384x4, .f32⟩
  | .local _ .vmem, ⟨29, _⟩ => ⟨S16384x1, .f32⟩
  | .local _ .vmem, ⟨30, _⟩ => ⟨S16384x32, .f32⟩
  | .local _ .vmem, ⟨31, _⟩ => ⟨S4x32, .f32⟩
  | .local _ .vmem, ⟨32, _⟩ => ⟨S16384x4, .f32⟩
  | .local _ .vmem, ⟨33, _⟩ => ⟨S16384x32, .f32⟩
  | .local _ .vmem, ⟨34, _⟩ => ⟨S1x16384, .i32⟩
  | .local _ .vmem, ⟨35, _⟩ => ⟨S16384x4, .f32⟩
  | .local _ .vmem, ⟨36, _⟩ => ⟨S16384x32, .f32⟩
  | .local _ .vmem, ⟨37, _⟩ => ⟨S4x32, .f32⟩
  | .local _ .vmem, ⟨38, _⟩ => ⟨S1x32, .f32⟩
  | .local _ .vmem, ⟨39, _⟩ => ⟨S256x4, .f32⟩
  | .local _ .vmem, ⟨40, _⟩ => ⟨S256x4, .f32⟩
  | .local _ .vmem, ⟨41, _⟩ => ⟨S256x32, .f32⟩
  | .local _ .vmem, ⟨42, _⟩ => ⟨S256x32, .f32⟩
  | .local _ .vmem, ⟨43, _⟩ => ⟨S1024x1, .i32⟩
  | .local _ .vmem, ⟨44, _⟩ => ⟨S1024x1, .i32⟩
  | .local _ .vmem, ⟨45, _⟩ => ⟨S1024x4, .f32⟩
  | .local _ .vmem, ⟨46, _⟩ => ⟨S1024x4, .f32⟩
  | .local _ .vmem, ⟨47, _⟩ => ⟨S1024x1, .f32⟩
  | .local _ .vmem, ⟨48, _⟩ => ⟨S1024x1, .f32⟩
  | .local _ .vmem, ⟨49, _⟩ => ⟨S4096x4, .f32⟩
  | .local _ .vmem, ⟨50, _⟩ => ⟨S1024x4, .f32⟩
  | .local _ .vmem, ⟨51, _⟩ => ⟨S1024x4, .f32⟩
  | .local _ .vmem, ⟨52, _⟩ => ⟨S128x4, .i32⟩
  | .local _ .vmem, ⟨53, _⟩ => ⟨S128x4, .i32⟩
  | .local _ .vmem, ⟨54, _⟩ => ⟨S128x16, .f32⟩
  | .local _ .vmem, ⟨55, _⟩ => ⟨S128x16, .f32⟩
  | .local _ .vmem, ⟨56, _⟩ => ⟨S4x128x4096, .f32⟩
  | .local _ .vmem, ⟨57, _⟩ => ⟨S4x128x4096, .f32⟩
  | _, _ => ⟨S1x4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c_1 : Ref sig .tc := ⟨.hbm, 47, rfl⟩
abbrev main_v7 : Ref sig .tc := ⟨.hbm, 48, rfl⟩
abbrev main_v8 : Ref sig .tc := ⟨.hbm, 49, rfl⟩
abbrev main_c_2 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_3 : Ref sig .tc := ⟨.hbm, 54, rfl⟩
abbrev main_v12 : Ref sig .tc := ⟨.hbm, 55, rfl⟩
abbrev main_v13 : Ref sig .tc := ⟨.hbm, 56, rfl⟩
abbrev main_c_4 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_c_5 : Ref sig .tc := ⟨.hbm, 67, rfl⟩
abbrev main_v23 : Ref sig .tc := ⟨.hbm, 68, rfl⟩
abbrev main_v24 : Ref sig .tc := ⟨.hbm, 69, rfl⟩
abbrev main_c_6 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_7 : Ref sig .tc := ⟨.hbm, 74, rfl⟩
abbrev main_v28 : Ref sig .tc := ⟨.hbm, 75, rfl⟩
abbrev main_v29 : Ref sig .tc := ⟨.hbm, 76, rfl⟩
abbrev main_c_8 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51_0 : Ref sig .tc := ⟨.hbm, 99, rfl⟩
abbrev main_v51_1 : Ref sig .tc := ⟨.hbm, 100, rfl⟩
abbrev main_v51_2 : Ref sig .tc := ⟨.hbm, 101, rfl⟩
abbrev main_v51_3 : Ref sig .tc := ⟨.hbm, 102, rfl⟩
abbrev main_v51_4 : Ref sig .tc := ⟨.hbm, 103, rfl⟩
abbrev main_v51_5 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_call1_cst : Ref sig .tc := ⟨.hbm, 110, rfl⟩
abbrev main_call1_v0 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_call2_cst : Ref sig .tc := ⟨.hbm, 118, rfl⟩
abbrev main_call2_v0 : Ref sig .tc := ⟨.hbm, 119, rfl⟩
abbrev main_v63 : Ref sig .tc := ⟨.hbm, 120, rfl⟩
abbrev main_cst_9 : Ref sig .tc := ⟨.hbm, 121, rfl⟩
abbrev main_v64 : Ref sig .tc := ⟨.hbm, 122, rfl⟩
abbrev main_v65 : Ref sig .tc := ⟨.hbm, 123, rfl⟩
abbrev main_cst_10 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_11 : Ref sig .tc := ⟨.hbm, 130, rfl⟩
abbrev main_v71 : Ref sig .tc := ⟨.hbm, 131, rfl⟩
abbrev main_v72 : Ref sig .tc := ⟨.hbm, 132, rfl⟩
abbrev main_cst_12 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_13 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_14 : Ref sig .tc := ⟨.hbm, 166, rfl⟩
abbrev main_v104 : Ref sig .tc := ⟨.hbm, 167, rfl⟩
abbrev main_v105 : Ref sig .tc := ⟨.hbm, 168, rfl⟩
abbrev main_cst_15 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_16 : Ref sig .tc := ⟨.hbm, 175, rfl⟩
abbrev main_v111 : Ref sig .tc := ⟨.hbm, 176, rfl⟩
abbrev main_v112 : Ref sig .tc := ⟨.hbm, 177, rfl⟩
abbrev main_cst_17 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_18 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_c_19 : Ref sig .tc := ⟨.hbm, 190, rfl⟩
abbrev main_v123 : Ref sig .tc := ⟨.hbm, 191, rfl⟩
abbrev main_v124 : Ref sig .tc := ⟨.hbm, 192, rfl⟩
abbrev main_c_20 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_call3_cst : Ref sig .tc := ⟨.hbm, 205, rfl⟩
abbrev main_call3_v0 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_21 : Ref sig .tc := ⟨.hbm, 215, rfl⟩
abbrev main_v144 : Ref sig .tc := ⟨.hbm, 216, rfl⟩
abbrev main_v145 : Ref sig .tc := ⟨.hbm, 217, rfl⟩
abbrev main_cst_22 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_23 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_call4_v0 : Ref sig .tc := ⟨.hbm, 232, rfl⟩
abbrev main_call4_c : Ref sig .tc := ⟨.hbm, 233, rfl⟩
abbrev main_call4_c_0 : Ref sig .tc := ⟨.hbm, 234, rfl⟩
abbrev main_call4_v1_0 : Ref sig .tc := ⟨.hbm, 235, rfl⟩
abbrev main_v158 : Ref sig .tc := ⟨.hbm, 236, rfl⟩
abbrev main_v159 : Ref sig .tc := ⟨.hbm, 237, rfl⟩
abbrev main_call5_c : Ref sig .tc := ⟨.hbm, 238, rfl⟩
abbrev main_call5_v0 : Ref sig .tc := ⟨.hbm, 239, rfl⟩
abbrev main_call5_v1 : Ref sig .tc := ⟨.hbm, 240, rfl⟩
abbrev main_call5_c_0 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_call5_v5 : Ref sig .tc := ⟨.hbm, 245, rfl⟩
abbrev main_call5_c_1 : Ref sig .tc := ⟨.hbm, 246, rfl⟩
abbrev main_call5_c_2 : Ref sig .tc := ⟨.hbm, 247, rfl⟩
abbrev main_call5_v6 : Ref sig .tc := ⟨.hbm, 248, rfl⟩
abbrev main_call5_v7 : Ref sig .tc := ⟨.hbm, 249, rfl⟩
abbrev main_call5_v8 : Ref sig .tc := ⟨.hbm, 250, rfl⟩
abbrev main_call5_v9 : Ref sig .tc := ⟨.hbm, 251, rfl⟩
abbrev main_call5_v10 : Ref sig .tc := ⟨.hbm, 252, rfl⟩
abbrev main_call5_v11 : Ref sig .tc := ⟨.hbm, 253, rfl⟩
abbrev main_call5_c_3 : Ref sig .tc := ⟨.hbm, 254, rfl⟩
abbrev main_call5_v12 : Ref sig .tc := ⟨.hbm, 255, rfl⟩
abbrev main_call5_v13 : Ref sig .tc := ⟨.hbm, 256, rfl⟩
abbrev main_call5_c_4 : Ref sig .tc := ⟨.hbm, 257, rfl⟩
abbrev main_call5_v14 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_cst_24 : Ref sig .tc := ⟨.hbm, 263, rfl⟩
abbrev main_call6_v0 : Ref sig .tc := ⟨.hbm, 264, rfl⟩
abbrev main_call6_v1 : Ref sig .tc := ⟨.hbm, 265, rfl⟩
abbrev main_v164 : Ref sig .tc := ⟨.hbm, 266, rfl⟩
abbrev main_cst_25 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_call7_v0 : Ref sig .tc := ⟨.hbm, 273, rfl⟩
abbrev main_call7_c : Ref sig .tc := ⟨.hbm, 274, rfl⟩
abbrev main_call7_c_0 : Ref sig .tc := ⟨.hbm, 275, rfl⟩
abbrev main_call7_v1_0 : Ref sig .tc := ⟨.hbm, 276, rfl⟩
abbrev main_v170 : Ref sig .tc := ⟨.hbm, 277, rfl⟩
abbrev main_v171 : Ref sig .tc := ⟨.hbm, 278, rfl⟩
abbrev main_call8_c : Ref sig .tc := ⟨.hbm, 279, rfl⟩
abbrev main_call8_v0 : Ref sig .tc := ⟨.hbm, 280, rfl⟩
abbrev main_call8_v1 : Ref sig .tc := ⟨.hbm, 281, rfl⟩
abbrev main_call8_c_0 : Ref sig .tc := ⟨.hbm, 282, rfl⟩
abbrev main_call8_v2 : Ref sig .tc := ⟨.hbm, 283, rfl⟩
abbrev main_call8_v3 : Ref sig .tc := ⟨.hbm, 284, rfl⟩
abbrev main_call8_v4 : Ref sig .tc := ⟨.hbm, 285, rfl⟩
abbrev main_call8_v5 : Ref sig .tc := ⟨.hbm, 286, rfl⟩
abbrev main_call8_c_1 : Ref sig .tc := ⟨.hbm, 287, rfl⟩
abbrev main_call8_c_2 : Ref sig .tc := ⟨.hbm, 288, rfl⟩
abbrev main_call8_v6 : Ref sig .tc := ⟨.hbm, 289, rfl⟩
abbrev main_call8_v7 : Ref sig .tc := ⟨.hbm, 290, rfl⟩
abbrev main_call8_v8 : Ref sig .tc := ⟨.hbm, 291, rfl⟩
abbrev main_call8_v9 : Ref sig .tc := ⟨.hbm, 292, rfl⟩
abbrev main_call8_v10 : Ref sig .tc := ⟨.hbm, 293, rfl⟩
abbrev main_call8_v11 : Ref sig .tc := ⟨.hbm, 294, rfl⟩
abbrev main_call8_c_3 : Ref sig .tc := ⟨.hbm, 295, rfl⟩
abbrev main_call8_v12 : Ref sig .tc := ⟨.hbm, 296, rfl⟩
abbrev main_call8_v13 : Ref sig .tc := ⟨.hbm, 297, rfl⟩
abbrev main_call8_c_4 : Ref sig .tc := ⟨.hbm, 298, rfl⟩
abbrev main_call8_v14 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_cst_26 : Ref sig .tc := ⟨.hbm, 304, rfl⟩
abbrev main_call9_v0 : Ref sig .tc := ⟨.hbm, 305, rfl⟩
abbrev main_call9_v1 : Ref sig .tc := ⟨.hbm, 306, rfl⟩
abbrev main_v176 : Ref sig .tc := ⟨.hbm, 307, rfl⟩
abbrev main_cst_27 : Ref sig .tc := ⟨.hbm, 308, rfl⟩
abbrev main_v177 : Ref sig .tc := ⟨.hbm, 309, rfl⟩
abbrev main_v178 : Ref sig .tc := ⟨.hbm, 310, rfl⟩
abbrev main_v179 : Ref sig .tc := ⟨.hbm, 311, rfl⟩
abbrev main_v180 : Ref sig .tc := ⟨.hbm, 312, rfl⟩
abbrev main_v181 : Ref sig .tc := ⟨.hbm, 313, rfl⟩
abbrev main_call10_v0 : Ref sig .tc := ⟨.hbm, 314, rfl⟩
abbrev main_call10_c : Ref sig .tc := ⟨.hbm, 315, rfl⟩
abbrev main_call10_c_0 : Ref sig .tc := ⟨.hbm, 316, rfl⟩
abbrev main_call10_v1_0 : Ref sig .tc := ⟨.hbm, 317, rfl⟩
abbrev main_v182 : Ref sig .tc := ⟨.hbm, 318, rfl⟩
abbrev main_v183 : Ref sig .tc := ⟨.hbm, 319, rfl⟩
abbrev main_call11_c : Ref sig .tc := ⟨.hbm, 320, rfl⟩
abbrev main_call11_v0 : Ref sig .tc := ⟨.hbm, 321, rfl⟩
abbrev main_call11_v1 : Ref sig .tc := ⟨.hbm, 322, rfl⟩
abbrev main_call11_c_0 : Ref sig .tc := ⟨.hbm, 323, rfl⟩
abbrev main_call11_v2 : Ref sig .tc := ⟨.hbm, 324, rfl⟩
abbrev main_call11_v3 : Ref sig .tc := ⟨.hbm, 325, rfl⟩
abbrev main_call11_v4 : Ref sig .tc := ⟨.hbm, 326, rfl⟩
abbrev main_call11_v5 : Ref sig .tc := ⟨.hbm, 327, rfl⟩
abbrev main_call11_c_1 : Ref sig .tc := ⟨.hbm, 328, rfl⟩
abbrev main_call11_c_2 : Ref sig .tc := ⟨.hbm, 329, rfl⟩
abbrev main_call11_v6 : Ref sig .tc := ⟨.hbm, 330, rfl⟩
abbrev main_call11_v7 : Ref sig .tc := ⟨.hbm, 331, rfl⟩
abbrev main_call11_v8 : Ref sig .tc := ⟨.hbm, 332, rfl⟩
abbrev main_call11_v9 : Ref sig .tc := ⟨.hbm, 333, rfl⟩
abbrev main_call11_v10 : Ref sig .tc := ⟨.hbm, 334, rfl⟩
abbrev main_call11_v11 : Ref sig .tc := ⟨.hbm, 335, rfl⟩
abbrev main_call11_c_3 : Ref sig .tc := ⟨.hbm, 336, rfl⟩
abbrev main_call11_v12 : Ref sig .tc := ⟨.hbm, 337, rfl⟩
abbrev main_call11_v13 : Ref sig .tc := ⟨.hbm, 338, rfl⟩
abbrev main_call11_c_4 : Ref sig .tc := ⟨.hbm, 339, rfl⟩
abbrev main_call11_v14 : Ref sig .tc := ⟨.hbm, 340, rfl⟩
abbrev main_v184 : Ref sig .tc := ⟨.hbm, 341, rfl⟩
abbrev main_v185 : Ref sig .tc := ⟨.hbm, 342, rfl⟩
abbrev main_v186 : Ref sig .tc := ⟨.hbm, 343, rfl⟩
abbrev main_v187 : Ref sig .tc := ⟨.hbm, 344, rfl⟩
abbrev main_cst_28 : Ref sig .tc := ⟨.hbm, 345, rfl⟩
abbrev main_call12_v0 : Ref sig .tc := ⟨.hbm, 346, rfl⟩
abbrev main_call12_v1 : Ref sig .tc := ⟨.hbm, 347, rfl⟩
abbrev main_v188 : Ref sig .tc := ⟨.hbm, 348, rfl⟩
abbrev main_cst_29 : Ref sig .tc := ⟨.hbm, 349, rfl⟩
abbrev main_v189 : Ref sig .tc := ⟨.hbm, 350, rfl⟩
abbrev main_v190 : Ref sig .tc := ⟨.hbm, 351, rfl⟩
abbrev main_v191 : Ref sig .tc := ⟨.hbm, 352, rfl⟩
abbrev main_v192 : Ref sig .tc := ⟨.hbm, 353, rfl⟩
abbrev main_v193 : Ref sig .tc := ⟨.hbm, 354, rfl⟩
abbrev main_call13_v0 : Ref sig .tc := ⟨.hbm, 355, rfl⟩
abbrev main_call13_c : Ref sig .tc := ⟨.hbm, 356, rfl⟩
abbrev main_call13_c_0 : Ref sig .tc := ⟨.hbm, 357, rfl⟩
abbrev main_call13_v1_0 : Ref sig .tc := ⟨.hbm, 358, rfl⟩
abbrev main_v194 : Ref sig .tc := ⟨.hbm, 359, rfl⟩
abbrev main_v195 : Ref sig .tc := ⟨.hbm, 360, rfl⟩
abbrev main_call14_c : Ref sig .tc := ⟨.hbm, 361, rfl⟩
abbrev main_call14_v0 : Ref sig .tc := ⟨.hbm, 362, rfl⟩
abbrev main_call14_v1 : Ref sig .tc := ⟨.hbm, 363, rfl⟩
abbrev main_call14_c_0 : Ref sig .tc := ⟨.hbm, 364, rfl⟩
abbrev main_call14_v2 : Ref sig .tc := ⟨.hbm, 365, rfl⟩
abbrev main_call14_v3 : Ref sig .tc := ⟨.hbm, 366, rfl⟩
abbrev main_call14_v4 : Ref sig .tc := ⟨.hbm, 367, rfl⟩
abbrev main_call14_v5 : Ref sig .tc := ⟨.hbm, 368, rfl⟩
abbrev main_call14_c_1 : Ref sig .tc := ⟨.hbm, 369, rfl⟩
abbrev main_call14_c_2 : Ref sig .tc := ⟨.hbm, 370, rfl⟩
abbrev main_call14_v6 : Ref sig .tc := ⟨.hbm, 371, rfl⟩
abbrev main_call14_v7 : Ref sig .tc := ⟨.hbm, 372, rfl⟩
abbrev main_call14_v8 : Ref sig .tc := ⟨.hbm, 373, rfl⟩
abbrev main_call14_v9 : Ref sig .tc := ⟨.hbm, 374, rfl⟩
abbrev main_call14_v10 : Ref sig .tc := ⟨.hbm, 375, rfl⟩
abbrev main_call14_v11 : Ref sig .tc := ⟨.hbm, 376, rfl⟩
abbrev main_call14_c_3 : Ref sig .tc := ⟨.hbm, 377, rfl⟩
abbrev main_call14_v12 : Ref sig .tc := ⟨.hbm, 378, rfl⟩
abbrev main_call14_v13 : Ref sig .tc := ⟨.hbm, 379, rfl⟩
abbrev main_call14_c_4 : Ref sig .tc := ⟨.hbm, 380, rfl⟩
abbrev main_call14_v14 : Ref sig .tc := ⟨.hbm, 381, rfl⟩
abbrev main_v196 : Ref sig .tc := ⟨.hbm, 382, rfl⟩
abbrev main_v197 : Ref sig .tc := ⟨.hbm, 383, rfl⟩
abbrev main_v198 : Ref sig .tc := ⟨.hbm, 384, rfl⟩
abbrev main_v199 : Ref sig .tc := ⟨.hbm, 385, rfl⟩
abbrev main_cst_30 : Ref sig .tc := ⟨.hbm, 386, rfl⟩
abbrev main_call15_v0 : Ref sig .tc := ⟨.hbm, 387, rfl⟩
abbrev main_call15_v1 : Ref sig .tc := ⟨.hbm, 388, rfl⟩
abbrev main_v200 : Ref sig .tc := ⟨.hbm, 389, rfl⟩
abbrev main_v201 : Ref sig .tc := ⟨.hbm, 390, rfl⟩
abbrev main_v202 : Ref sig .tc := ⟨.hbm, 391, rfl⟩
abbrev main_v203 : Ref sig .tc := ⟨.hbm, 392, rfl⟩
abbrev main_v204 : Ref sig .tc := ⟨.hbm, 393, rfl⟩
abbrev main_v205 : Ref sig .tc := ⟨.hbm, 394, rfl⟩
abbrev main_v206 : Ref sig .tc := ⟨.hbm, 395, rfl⟩
abbrev main_v207 : Ref sig .tc := ⟨.hbm, 396, rfl⟩
abbrev main_v208 : Ref sig .tc := ⟨.hbm, 397, rfl⟩
abbrev main_v209 : Ref sig .tc := ⟨.hbm, 398, rfl⟩
abbrev main_v210 : Ref sig .tc := ⟨.hbm, 399, rfl⟩
abbrev main_v211 : Ref sig .tc := ⟨.hbm, 400, rfl⟩
abbrev main_c_31 : Ref sig .tc := ⟨.hbm, 401, rfl⟩
abbrev main_v212 : Ref sig .tc := ⟨.hbm, 402, rfl⟩
abbrev main_v213 : Ref sig .tc := ⟨.hbm, 403, rfl⟩
abbrev main_v214 : Ref sig .tc := ⟨.hbm, 404, rfl⟩
abbrev main_v215 : Ref sig .tc := ⟨.hbm, 405, rfl⟩
abbrev main_v216 : Ref sig .tc := ⟨.hbm, 406, rfl⟩
abbrev main_v217 : Ref sig .tc := ⟨.hbm, 407, rfl⟩
abbrev main_v218 : Ref sig .tc := ⟨.hbm, 408, rfl⟩
abbrev main_v219_0 : Ref sig .tc := ⟨.hbm, 409, rfl⟩
abbrev main_v219_1 : Ref sig .tc := ⟨.hbm, 410, rfl⟩
abbrev main_v220 : Ref sig .tc := ⟨.hbm, 411, rfl⟩
abbrev main_v221_0 : Ref sig .tc := ⟨.hbm, 412, rfl⟩
abbrev main_v221_1 : Ref sig .tc := ⟨.hbm, 413, rfl⟩
abbrev main_v222 : Ref sig .tc := ⟨.hbm, 414, rfl⟩
abbrev main_v223 : Ref sig .tc := ⟨.hbm, 415, rfl⟩
abbrev main_v224 : Ref sig .tc := ⟨.hbm, 416, rfl⟩
abbrev main_v225 : Ref sig .tc := ⟨.hbm, 417, rfl⟩
abbrev main_v226 : Ref sig .tc := ⟨.hbm, 418, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem3_1 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc3_sem0_0 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc3_sem6_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57

abbrev nD : Nat := 1
abbrev τ : Topo := Topo.v7x

variable {F : FTy → Type} [FloatOps F]

abbrev grid0 : Pipeline.Grid := .none

abbrev stage0_0 : Fin 1 → Memref sig .tc .vmem S4096x33 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4096x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4096x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4096x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4096x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S16384x4 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16384x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16384x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16384x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S16384x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x16384 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16384x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16384x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x4 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x4 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S4096x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1024x4 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S128x4 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4x128x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== ReferenceIdeal.lean ====
abbrev S1x4096x33 : Shape := ⟨3, ![1, 4096, 33]⟩
abbrev S131072 : Shape := ⟨1, ![131072]⟩
abbrev S32x33 : Shape := ⟨2, ![32, 33]⟩
abbrev S32 : Shape := ⟨1, ![32]⟩
abbrev S32x32 : Shape := ⟨2, ![32, 32]⟩
abbrev S192x32 : Shape := ⟨2, ![192, 32]⟩
abbrev S192 : Shape := ⟨1, ![192]⟩
abbrev S192x64 : Shape := ⟨2, ![192, 64]⟩
abbrev S64x128 : Shape := ⟨2, ![64, 128]⟩
abbrev S64 : Shape := ⟨1, ![64]⟩
abbrev S1x64 : Shape := ⟨2, ![1, 64]⟩
abbrev S1 : Shape := ⟨1, ![1]⟩
abbrev S32x64 : Shape := ⟨2, ![32, 64]⟩
abbrev S4x8 : Shape := ⟨2, ![4, 8]⟩
abbrev S33x32 : Shape := ⟨2, ![33, 32]⟩
abbrev S1x4096x32 : Shape := ⟨3, ![1, 4096, 32]⟩
abbrev S1x1x32 : Shape := ⟨3, ![1, 1, 32]⟩
abbrev S_ : Shape := ⟨0, ![]⟩
abbrev S1x4096 : Shape := ⟨2, ![1, 4096]⟩
abbrev S1x4096x1 : Shape := ⟨3, ![1, 4096, 1]⟩
abbrev S4096x64 : Shape := ⟨2, ![4096, 64]⟩
abbrev S4096x32 : Shape := ⟨2, ![4096, 32]⟩
abbrev S32x192 : Shape := ⟨2, ![32, 192]⟩
abbrev S4096x192 : Shape := ⟨2, ![4096, 192]⟩
abbrev S1x192 : Shape := ⟨2, ![1, 192]⟩
abbrev S64x192 : Shape := ⟨2, ![64, 192]⟩
abbrev S131072x1 : Shape := ⟨2, ![131072, 1]⟩
abbrev S131072x64 : Shape := ⟨2, ![131072, 64]⟩
abbrev S131072x128 : Shape := ⟨2, ![131072, 128]⟩
abbrev S128x64 : Shape := ⟨2, ![128, 64]⟩
abbrev S64x1 : Shape := ⟨2, ![64, 1]⟩
abbrev S1x1 : Shape := ⟨2, ![1, 1]⟩
abbrev S4096x4 : Shape := ⟨2, ![4096, 4]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S64x32 : Shape := ⟨2, ![64, 32]⟩
abbrev S4096x4x8 : Shape := ⟨3, ![4096, 4, 8]⟩
abbrev S1x4x8 : Shape := ⟨3, ![1, 4, 8]⟩
abbrev S16384x4 : Shape := ⟨2, ![16384, 4]⟩
abbrev S16384x4x1 : Shape := ⟨3, ![16384, 4, 1]⟩
abbrev S16384x4x8 : Shape := ⟨3, ![16384, 4, 8]⟩
abbrev S1x32 : Shape := ⟨2, ![1, 32]⟩
abbrev S4x4096x4096 : Shape := ⟨3, ![4, 4096, 4096]⟩
abbrev S4x16384 : Shape := ⟨2, ![4, 16384]⟩
abbrev S16384x2 : Shape := ⟨2, ![16384, 2]⟩
abbrev S4x4096 : Shape := ⟨2, ![4, 4096]⟩
abbrev S4x4096x1 : Shape := ⟨3, ![4, 4096, 1]⟩
abbrev S1x4x4096x4096 : Shape := ⟨4, ![1, 4, 4096, 4096]⟩

abbrev nBuf : Space → Nat
  | .hbm => 308
  | .vmem => 0
  | .smem => 0
  | _ => 0

abbrev hbmTy0_0 (i : Nat) : BufTy := match i % 128 with
  | 0 => ⟨S1x4096x33, .f32⟩
  | 1 => ⟨S131072, .i32⟩
  | 2 => ⟨S131072, .i32⟩
  | 3 => ⟨S32x33, .f32⟩
  | 4 => ⟨S32, .f32⟩
  | 5 => ⟨S32x32, .f32⟩
  | 6 => ⟨S32, .f32⟩
  | 7 => ⟨S32, .f32⟩
  | 8 => ⟨S32, .f32⟩
  | 9 => ⟨S192x32, .f32⟩
  | 10 => ⟨S192, .f32⟩
  | 11 => ⟨S192x64, .f32⟩
  | 12 => ⟨S192, .f32⟩
  | 13 => ⟨S64x128, .f32⟩
  | 14 => ⟨S64, .f32⟩
  | 15 => ⟨S1x64, .f32⟩
  | 16 => ⟨S1, .f32⟩
  | 17 => ⟨S32x64, .f32⟩
  | 18 => ⟨S4x8, .f32⟩
  | 19 => ⟨S4x8, .f32⟩
  | 20 => ⟨S32, .f32⟩
  | 21 => ⟨S33x32, .f32⟩
  | 22 => ⟨S1x4096x32, .f32⟩
  | 23 => ⟨S1x1x32, .f32⟩
  | 24 => ⟨S1x4096x32, .f32⟩
  | 25 => ⟨S1x4096x32, .f32⟩
  | 26 => ⟨S_, .f32⟩
  | 27 => ⟨S1x4096x32, .f32⟩
  | 28 => ⟨S1x4096x32, .f32⟩
  | 29 => ⟨S32x32, .f32⟩
  | 30 => ⟨S1x4096x32, .f32⟩
  | 31 => ⟨S1x1x32, .f32⟩
  | 32 => ⟨S1x4096x32, .f32⟩
  | 33 => ⟨S1x4096x32, .f32⟩
  | 34 => ⟨S_, .f32⟩
  | 35 => ⟨S1x4096x32, .f32⟩
  | 36 => ⟨S1x4096x32, .f32⟩
  | 37 => ⟨S_, .f32⟩
  | 38 => ⟨S1x4096, .f32⟩
  | 39 => ⟨S1x4096x1, .f32⟩
  | 40 => ⟨S_, .f32⟩
  | 41 => ⟨S1x4096x1, .f32⟩
  | 42 => ⟨S1x4096x1, .f32⟩
  | 43 => ⟨S1x4096x32, .f32⟩
  | 44 => ⟨S1x4096x32, .f32⟩
  | 45 => ⟨S1x4096x32, .f32⟩
  | 46 => ⟨S_, .f32⟩
  | 47 => ⟨S1x4096, .f32⟩
  | 48 => ⟨S1x4096x1, .f32⟩
  | 49 => ⟨S_, .f32⟩
  | 50 => ⟨S1x4096x1, .f32⟩
  | 51 => ⟨S1x4096x1, .f32⟩
  | 52 => ⟨S1x4096x32, .f32⟩
  | 53 => ⟨S1x4096x32, .f32⟩
  | 54 => ⟨S_, .f32⟩
  | 55 => ⟨S1x4096x1, .f32⟩
  | 56 => ⟨S1x4096x1, .f32⟩
  | 57 => ⟨S1x4096x1, .f32⟩
  | 58 => ⟨S1x4096x32, .f32⟩
  | 59 => ⟨S1x4096x32, .f32⟩
  | 60 => ⟨S1x1x32, .f32⟩
  | 61 => ⟨S1x4096x32, .f32⟩
  | 62 => ⟨S1x4096x32, .f32⟩
  | 63 => ⟨S1x1x32, .f32⟩
  | 64 => ⟨S1x4096x32, .f32⟩
  | 65 => ⟨S1x4096x32, .f32⟩
  | 66 => ⟨S_, .f32⟩
  | 67 => ⟨S4096x64, .f32⟩
  | 68 => ⟨S4096x32, .f32⟩
  | 69 => ⟨S32x192, .f32⟩
  | 70 => ⟨S4096x192, .f32⟩
  | 71 => ⟨S1x192, .f32⟩
  | 72 => ⟨S4096x192, .f32⟩
  | 73 => ⟨S4096x192, .f32⟩
  | 74 => ⟨S64x192, .f32⟩
  | 75 => ⟨S4096x192, .f32⟩
  | 76 => ⟨S1x192, .f32⟩
  | 77 => ⟨S4096x192, .f32⟩
  | 78 => ⟨S4096x192, .f32⟩
  | 79 => ⟨S4096x64, .f32⟩
  | 80 => ⟨S4096x64, .f32⟩
  | 81 => ⟨S4096x64, .f32⟩
  | 82 => ⟨S4096x64, .f32⟩
  | 83 => ⟨S4096x64, .f32⟩
  | 84 => ⟨S4096x64, .f32⟩
  | 85 => ⟨S4096x64, .f32⟩
  | 86 => ⟨S4096x64, .f32⟩
  | 87 => ⟨S4096x64, .f32⟩
  | 88 => ⟨S_, .f32⟩
  | 89 => ⟨S4096x64, .f32⟩
  | 90 => ⟨S4096x64, .f32⟩
  | 91 => ⟨S_, .f32⟩
  | 92 => ⟨S4096x64, .f32⟩
  | 93 => ⟨S4096x64, .f32⟩
  | 94 => ⟨S4096x64, .f32⟩
  | 95 => ⟨S4096x64, .f32⟩
  | 96 => ⟨S4096x64, .f32⟩
  | 97 => ⟨S_, .f32⟩
  | 98 => ⟨S4096x64, .f32⟩
  | 99 => ⟨S4096x64, .f32⟩
  | 100 => ⟨S_, .f32⟩
  | 101 => ⟨S4096x64, .f32⟩
  | 102 => ⟨S4096x64, .f32⟩
  | 103 => ⟨S4096x64, .f32⟩
  | 104 => ⟨S4096x64, .f32⟩
  | 105 => ⟨S4096x64, .f32⟩
  | 106 => ⟨S_, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x64, .f32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S1x4096x33, .f32⟩

abbrev hbmTy0_1 (i : Nat) : BufTy := match i % 128 with
  | 0 => ⟨S131072x1, .i32⟩
  | 1 => ⟨S131072x64, .f32⟩
  | 2 => ⟨S131072x128, .f32⟩
  | 3 => ⟨S128x64, .f32⟩
  | 4 => ⟨S131072x64, .f32⟩
  | 5 => ⟨S1x64, .f32⟩
  | 6 => ⟨S131072x64, .f32⟩
  | 7 => ⟨S131072x64, .f32⟩
  | 8 => ⟨S_, .f32⟩
  | 9 => ⟨S131072x64, .f32⟩
  | 10 => ⟨S131072x64, .f32⟩
  | 11 => ⟨S64x1, .f32⟩
  | 12 => ⟨S131072x1, .f32⟩
  | 13 => ⟨S1x1, .f32⟩
  | 14 => ⟨S131072x1, .f32⟩
  | 15 => ⟨S131072x1, .f32⟩
  | 16 => ⟨S131072x1, .f32⟩
  | 17 => ⟨S131072x1, .f32⟩
  | 18 => ⟨S_, .f32⟩
  | 19 => ⟨S131072x1, .f32⟩
  | 20 => ⟨S131072x1, .f32⟩
  | 21 => ⟨S_, .f32⟩
  | 22 => ⟨S131072x1, .f32⟩
  | 23 => ⟨S131072x1, .f32⟩
  | 24 => ⟨S131072, .f32⟩
  | 25 => ⟨S4096x32, .f32⟩
  | 26 => ⟨S4096x4, .f32⟩
  | 27 => ⟨S4096x4, .i32⟩
  | 28 => ⟨S4096, .i32⟩
  | 29 => ⟨S4096x1, .i32⟩
  | 30 => ⟨S_, .i32⟩
  | 31 => ⟨S4096x1, .i32⟩
  | 32 => ⟨S4096x1, .i32⟩
  | 33 => ⟨S4096x4, .i32⟩
  | 34 => ⟨S4096x4, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384, .i32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S16384, .f32⟩
  | 63 => ⟨S64x32, .f32⟩
  | 64 => ⟨S4096x32, .f32⟩
  | 65 => ⟨S4096x4x8, .f32⟩
  | 66 => ⟨S1x4x8, .f32⟩
  | 67 => ⟨S4096x4x8, .f32⟩
  | 68 => ⟨S4096x4x8, .f32⟩
  | 69 => ⟨S_, .f32⟩
  | 70 => ⟨S4096x4, .f32⟩
  | 71 => ⟨S1x4x8, .f32⟩
  | 72 => ⟨S4096x4x8, .f32⟩
  | 73 => ⟨S4096x4x8, .f32⟩
  | 74 => ⟨S_, .f32⟩
  | 75 => ⟨S4096x4, .f32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S16384x4, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384x4, .f32⟩
  | 94 => ⟨S16384x4, .f32⟩
  | 95 => ⟨S_, .f32⟩
  | 96 => ⟨S_, .f32⟩
  | 97 => ⟨S16384x4, .f32⟩
  | 98 => ⟨S16384x4, .i1⟩
  | 99 => ⟨S_, .f32⟩
  | 100 => ⟨S16384x4, .f32⟩
  | 101 => ⟨S16384x4, .f32⟩
  | 102 => ⟨S16384x4, .f32⟩
  | 103 => ⟨S_, .f32⟩
  | 104 => ⟨S_, .f32⟩
  | 105 => ⟨S16384x4, .f32⟩
  | 106 => ⟨S16384x4, .f32⟩
  | 107 => ⟨S16384x4, .f32⟩
  | 108 => ⟨S_, .f32⟩
  | 109 => ⟨S4096x4, .f32⟩
  | 110 => ⟨S16384x1, .i32⟩
  | 111 => ⟨S4096x4, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x4, .f32⟩
  | 121 => ⟨S_, .f32⟩
  | 122 => ⟨S16384x4, .f32⟩
  | 123 => ⟨S16384x4, .f32⟩
  | 124 => ⟨S16384x4, .f32⟩
  | 125 => ⟨S16384x1, .f32⟩
  | 126 => ⟨S16384x4, .f32⟩
  | 127 => ⟨S16384x4, .f32⟩
  | _ => ⟨S1x4096x33, .f32⟩

abbrev hbmTy0_2 (i : Nat) : BufTy := match i % 128 with
  | 0 => ⟨S16384x4x1, .f32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S16384x4x8, .f32⟩
  | 10 => ⟨S16384x4x8, .f32⟩
  | 11 => ⟨S16384x4x8, .f32⟩
  | 12 => ⟨S_, .f32⟩
  | 13 => ⟨S4096x4x8, .f32⟩
  | 14 => ⟨S16384x1, .i32⟩
  | 15 => ⟨S4096x4x8, .f32⟩
  | 16 => ⟨S4096x32, .f32⟩
  | 17 => ⟨S1x32, .f32⟩
  | 18 => ⟨S4096x32, .f32⟩
  | 19 => ⟨S4096x32, .f32⟩
  | 20 => ⟨S_, .f32⟩
  | 21 => ⟨S4x4096x4096, .f32⟩
  | 22 => ⟨S4x16384, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x1, .i32⟩
  | 39 => ⟨S16384x2, .i32⟩
  | 40 => ⟨S4x4096x4096, .f32⟩
  | 41 => ⟨S_, .f32⟩
  | 42 => ⟨S4x4096, .f32⟩
  | 43 => ⟨S4x4096x1, .f32⟩
  | 44 => ⟨S_, .f32⟩
  | 45 => ⟨S_, .f32⟩
  | 46 => ⟨S4x4096x1, .f32⟩
  | 47 => ⟨S4x4096x1, .f32⟩
  | 48 => ⟨S4x4096x4096, .f32⟩
  | 49 => ⟨S4x4096x4096, .f32⟩
  | 50 => ⟨S1x4096x32, .f32⟩
  | 51 => ⟨S1x4x4096x4096, .f32⟩
  | _ => ⟨S1x4096x33, .f32⟩

abbrev hbmTy (i : Nat) : BufTy := match i / 128 with
  | 0 => hbmTy0_0 i
  | 1 => hbmTy0_1 i
  | 2 => hbmTy0_2 i
  | _ => ⟨S1x4096x33, .f32⟩

abbrev bufTy : (tb : Table) → Fin (tcTables nBuf tb) → BufTy
  | .hbm, ⟨i, _⟩ => hbmTy i
  | _, _ => ⟨S1x4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_v13 : Ref sig .tc := ⟨.hbm, 39, rfl⟩
abbrev main_cst_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_5 : Ref sig .tc := ⟨.hbm, 88, rfl⟩
abbrev main_v57 : Ref sig .tc := ⟨.hbm, 89, rfl⟩
abbrev main_v58 : Ref sig .tc := ⟨.hbm, 90, rfl⟩
abbrev main_cst_6 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c : Ref sig .tc := ⟨.hbm, 112, rfl⟩
abbrev main_v76 : Ref sig .tc := ⟨.hbm, 113, rfl⟩
abbrev main_v77 : Ref sig .tc := ⟨.hbm, 114, rfl⟩
abbrev main_c_10 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_11 : Ref sig .tc := ⟨.hbm, 121, rfl⟩
abbrev main_v83 : Ref sig .tc := ⟨.hbm, 122, rfl⟩
abbrev main_v84 : Ref sig .tc := ⟨.hbm, 123, rfl⟩
abbrev main_c_12 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call2_cst : Ref sig .tc := ⟨.hbm, 136, rfl⟩
abbrev main_call2_v0 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_13 : Ref sig .tc := ⟨.hbm, 146, rfl⟩
abbrev main_v104 : Ref sig .tc := ⟨.hbm, 147, rfl⟩
abbrev main_v105 : Ref sig .tc := ⟨.hbm, 148, rfl⟩
abbrev main_cst_14 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_values : Ref sig .tc := ⟨.hbm, 154, rfl⟩
abbrev main_indices : Ref sig .tc := ⟨.hbm, 155, rfl⟩
abbrev main_v110 : Ref sig .tc := ⟨.hbm, 156, rfl⟩
abbrev main_v111 : Ref sig .tc := ⟨.hbm, 157, rfl⟩
abbrev main_c_15 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_16 : Ref sig .tc := ⟨.hbm, 164, rfl⟩
abbrev main_v117 : Ref sig .tc := ⟨.hbm, 165, rfl⟩
abbrev main_v118 : Ref sig .tc := ⟨.hbm, 166, rfl⟩
abbrev main_c_17 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_c_18 : Ref sig .tc := ⟨.hbm, 173, rfl⟩
abbrev main_v124 : Ref sig .tc := ⟨.hbm, 174, rfl⟩
abbrev main_v125 : Ref sig .tc := ⟨.hbm, 175, rfl⟩
abbrev main_c_19 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_c_20 : Ref sig .tc := ⟨.hbm, 182, rfl⟩
abbrev main_v131 : Ref sig .tc := ⟨.hbm, 183, rfl⟩
abbrev main_v132 : Ref sig .tc := ⟨.hbm, 184, rfl⟩
abbrev main_c_21 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_22 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_23 : Ref sig .tc := ⟨.hbm, 202, rfl⟩
abbrev main_v148 : Ref sig .tc := ⟨.hbm, 203, rfl⟩
abbrev main_c_24 : Ref sig .tc := ⟨.hbm, 204, rfl⟩
abbrev main_v149 : Ref sig .tc := ⟨.hbm, 205, rfl⟩
abbrev main_v150 : Ref sig .tc := ⟨.hbm, 206, rfl⟩
abbrev main_c_25 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_c_26 : Ref sig .tc := ⟨.hbm, 213, rfl⟩
abbrev main_v156 : Ref sig .tc := ⟨.hbm, 214, rfl⟩
abbrev main_v157 : Ref sig .tc := ⟨.hbm, 215, rfl⟩
abbrev main_c_27 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_28 : Ref sig .tc := ⟨.hbm, 223, rfl⟩
abbrev main_call3_cst : Ref sig .tc := ⟨.hbm, 224, rfl⟩
abbrev main_call3_v0 : Ref sig .tc := ⟨.hbm, 225, rfl⟩
abbrev main_call3_v1 : Ref sig .tc := ⟨.hbm, 226, rfl⟩
abbrev main_call3_v2 : Ref sig .tc := ⟨.hbm, 227, rfl⟩
abbrev main_call3_v3 : Ref sig .tc := ⟨.hbm, 228, rfl⟩
abbrev main_call3_v4 : Ref sig .tc := ⟨.hbm, 229, rfl⟩
abbrev main_v164 : Ref sig .tc := ⟨.hbm, 230, rfl⟩
abbrev main_cst_29 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_30 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_c_31 : Ref sig .tc := ⟨.hbm, 240, rfl⟩
abbrev main_v172 : Ref sig .tc := ⟨.hbm, 241, rfl⟩
abbrev main_v173 : Ref sig .tc := ⟨.hbm, 242, rfl⟩
abbrev main_c_32 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_cst_33 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_c_34 : Ref sig .tc := ⟨.hbm, 257, rfl⟩
abbrev main_v186 : Ref sig .tc := ⟨.hbm, 258, rfl⟩
abbrev main_v187 : Ref sig .tc := ⟨.hbm, 259, rfl⟩
abbrev main_c_35 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_36 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_37 : Ref sig .tc := ⟨.hbm, 276, rfl⟩
abbrev main_v202 : Ref sig .tc := ⟨.hbm, 277, rfl⟩
abbrev main_v203 : Ref sig .tc := ⟨.hbm, 278, rfl⟩
abbrev main_c_38 : Ref sig .tc := ⟨.hbm, 279, rfl⟩
abbrev main_v204 : Ref sig .tc := ⟨.hbm, 280, rfl⟩
abbrev main_v205 : Ref sig .tc := ⟨.hbm, 281, rfl⟩
abbrev main_c_39 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_c_40 : Ref sig .tc := ⟨.hbm, 286, rfl⟩
abbrev main_v209 : Ref sig .tc := ⟨.hbm, 287, rfl⟩
abbrev main_v210 : Ref sig .tc := ⟨.hbm, 288, rfl⟩
abbrev main_c_41 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_cst_42 : Ref sig .tc := ⟨.hbm, 297, rfl⟩
abbrev main_v218 : Ref sig .tc := ⟨.hbm, 298, rfl⟩
abbrev main_v219 : Ref sig .tc := ⟨.hbm, 299, rfl⟩
abbrev main_cst_43 : Ref sig .tc := ⟨.hbm, 300, rfl⟩
abbrev main_call4_v0 : Ref sig .tc := ⟨.hbm, 301, rfl⟩
abbrev main_call4_v1 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩

abbrev nD : Nat := 1
abbrev τ : Topo := Topo.v7x

variable {F : FTy → Type} [FloatOps F]
-- ==== Proof.EdgesRead.lean ====
/- The precondition read: every edge leaves the node whose row it is listed in, and ends at a node. -/
module

public import proofs.«01_k».proof.Defs
public import Idealize.ShloMosaic.Lib.Pointwise

@[expose] public section

set_option maxRecDepth 16384

noncomputable section

namespace Cert.Gnn

open Idealize.ShloMosaic Idealize.ShloMosaic.Pointwise

/-- The predicate's two shape relations. -/
theorem edgeFacts : Cert.Pre_edges_in_range.Facts where
  shapeCasts_S4096x32_S131072 := by decide
  bcast_S_S131072 := by decide

/-- The three comparisons of a word pair, read. -/
theorem bits_read (a n b : BitVec 32)
    (h : IntOp.andi (IntOp.andi (IntOp.cmpi .eq a n) (IntOp.cmpi .sge b 0#32)) (IntOp.cmpi .slt b 4096#32) = 1#1) : a = n ∧ b.toNat < 4096 := by
  have hand : ∀ p q : Bool, IntOp.andi (BitVec.ofBool p) (BitVec.ofBool q) = BitVec.ofBool (p && q) := by decide
  have hone : ∀ p : Bool, BitVec.ofBool p = 1#1 ↔ p = true := by decide
  simp only [IntOp.cmpi, hand, hone, Bool.and_eq_true, beq_iff_eq, BitVec.sle_eq_decide, BitVec.slt_eq_decide, decide_eq_true_eq,
    BitVec.toInt_eq_toNat_cond, BitVec.toNat_ofNat, Nat.reducePow, Nat.reduceMod] at h
  exact ⟨h.1.1, by omega⟩

/-- A word is its number's word. -/
theorem word_self (x : BitVec 32) : x = BitVec.ofNat 32 x.toNat := BitVec.eq_of_toNat_eq (by simp)

/-- The node whose row an edge is listed in. -/
theorem node_at [Cert.Pre_edges_in_range.Facts] (e : Fin 131072) :
    shapeCast Cert.Pre_edges_in_range.S131072 (iotaInDim Cert.Pre_edges_in_range.S4096x32 32 0)
      Cert.Pre_edges_in_range.Facts.shapeCasts_S4096x32_S131072 (ix1 e) = BitVec.ofNat 32 (e.val / 32) := by
  pointwise []

section Read

variable [Cert.Pre_edges_in_range.Facts] (m : (ℓ : Loc Cert.KernelIdeal.nD Cert.KernelIdeal.τ Cert.KernelIdeal.sig) → Buf (Elt Ideal) ℓ)
  (hpre : Cert.Pre_KernelIdeal_edges_in_range m) (c : Dev Cert.KernelIdeal.nD)

include hpre

theorem edges_read (e : Fin 131072) :
    (m ((c.tc : Thread Cert.KernelIdeal.nD Cert.KernelIdeal.τ).loc Cert.KernelIdeal.main_arg1) : IVec Cert.KernelIdeal.S131072 32) (ix1 e) = BitVec.ofNat 32 (e.val / 32)
    ∧ ((m ((c.tc : Thread Cert.KernelIdeal.nD Cert.KernelIdeal.τ).loc Cert.KernelIdeal.main_arg2) : IVec Cert.KernelIdeal.S131072 32) (ix1 e)).toNat < 4096 := by
  have h := congrFun (hpre c) (ix1 e)
  generalize m ((c.tc : Thread Cert.KernelIdeal.nD Cert.KernelIdeal.τ).loc Cert.KernelIdeal.main_arg1) = a at h ⊢
  generalize m ((c.tc : Thread Cert.KernelIdeal.nD Cert.KernelIdeal.τ).loc Cert.KernelIdeal.main_arg2) = b at h ⊢
  unfold Cert.Pre_edges_in_range.fn at h
  simp only [andi, cmpi] at h
  rw [node_at] at h
  exact bits_read _ _ _ h

end Read

end Cert.Gnn

end
-- ==== Proof.KernelRun.lean ====
/- The kernel program's run, with its two results: the launch ends with `main_v225` and `main_v226` holding what the
   fold of the program's segments holds at its last boundary, and with every argument array unchanged. The launch's set-up
   is the frame certificate's; only what is read off the final state is new. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program ends with its results at the last boundary's contents and its arguments as
    launched. -/
theorem run_results : θ_run defs (onTc (τ := τ) (main (F := F))) ⟨m, fun _ => 0, ρ⟩ (fun r => ∀ c : Dev nD,
      r.2.mem ((c.tc : Thread nD τ).loc main_v225) = W43 m ρ c main_v225
      ∧ r.2.mem ((c.tc : Thread nD τ).loc main_v226) = W43 m ρ c main_v226
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W43 m ρ c b)
    (hfin := fun c s' => by
      iintro ⟨⟨Hh, -⟩, HSI⟩
      unfold StableHlo.held
      imodintro
      iapply (pointsTo_read_all (Pipeline.ucRefs τ sig) (fun b => (((c : Thread nD τ)).1, b)) (W43 m ρ c) s')
      isplitl [Hh] <;> iassumption)
    (hQ := fun s h hz => fun c =>
      ⟨h c _ (mem_uc main_v225 (by decide)),
       h c _ (mem_uc main_v226 (by decide)),
       (h c _ (mem_uc main_arg0 (by decide))).trans (W43_main_arg0 m ρ c),
       (h c _ (mem_uc main_arg1 (by decide))).trans (W43_main_arg1 m ρ c),
       (h c _ (mem_uc main_arg2 (by decide))).trans (W43_main_arg2 m ρ c),
       (h c _ (mem_uc main_arg3 (by decide))).trans (W43_main_arg3 m ρ c),
       (h c _ (mem_uc main_arg4 (by decide))).trans (W43_main_arg4 m ρ c),
       (h c _ (mem_uc main_arg5 (by decide))).trans (W43_main_arg5 m ρ c),
       (h c _ (mem_uc main_arg6 (by decide))).trans (W43_main_arg6 m ρ c),
       (h c _ (mem_uc main_arg7 (by decide))).trans (W43_main_arg7 m ρ c),
       (h c _ (mem_uc main_arg8 (by decide))).trans (W43_main_arg8 m ρ c),
       (h c _ (mem_uc main_arg9 (by decide))).trans (W43_main_arg9 m ρ c),
       (h c _ (mem_uc main_arg10 (by decide))).trans (W43_main_arg10 m ρ c),
       (h c _ (mem_uc main_arg11 (by decide))).trans (W43_main_arg11 m ρ c),
       (h c _ (mem_uc main_arg12 (by decide))).trans (W43_main_arg12 m ρ c),
       (h c _ (mem_uc main_arg13 (by decide))).trans (W43_main_arg13 m ρ c),
       (h c _ (mem_uc main_arg14 (by decide))).trans (W43_main_arg14 m ρ c),
       (h c _ (mem_uc main_arg15 (by decide))).trans (W43_main_arg15 m ρ c),
       (h c _ (mem_uc main_arg16 (by decide))).trans (W43_main_arg16 m ρ c),
       (h c _ (mem_uc main_arg17 (by decide))).trans (W43_main_arg17 m ρ c),
       (h c _ (mem_uc main_arg18 (by decide))).trans (W43_main_arg18 m ρ c),
       (h c _ (mem_uc main_arg19 (by decide))).trans (W43_main_arg19 m ρ c),
       (h c _ (mem_uc main_arg20 (by decide))).trans (W43_main_arg20 m ρ c)⟩)

end Cert.KernelIdeal.Gen

end
-- ==== Proof.Arrays.lean ====
/- The arrays that both host programs compute, named once, over plain array arguments at the extended reals: the
   observation embedding, the gates of the recurrent cell, the hidden state, the edge score, and the steps of one
   round of the kernel program's selection. -/
module

public import proofs.«01_k».proof.Proof.Gen.KernelIdeal
public import Idealize.ShloMosaic.PureOps.Ideal

@[expose] public section

noncomputable section

namespace Cert.Gnn

open Cert.KernelIdeal Cert.KernelIdeal.Gen Idealize.ShloMosaic

local notation "FA" s => FVec Ideal s FTy.f32
local notation "IA" s => IVec s 32

/-- The rectifier on the embedding's shape. -/
def relu3 (x : FA S1x4096x32) : FA S1x4096x32 :=
  maximumf x (broadcastInDim S1x4096x32 ![] bcast_S_S1x4096x32 (constant S_ .f32 0x00000000#32))

/-- A bias row over the embedding's shape. -/
def row3 (b : FA S32) : FA S1x4096x32 :=
  broadcastInDim S1x4096x32 ![0, 1, 2] bcast_S1x1x32_S1x4096x32_0_1_2 (broadcastInDim S1x1x32 ![2] bcast_S32_S1x1x32_2 b)

/-- The first layer before its rectifier. -/
def pre1 (H : FA S1x4096x33) (W1 : FA S32x33) (b1 : FA S32) : FA S1x4096x32 :=
  addf (Host.dotGeneral dot_S1x4096x33_S33x32_S1x4096x32_2_0_01_1_n_n none H
    (transpose S33x32 [1, 0] W1 transposes_S32x33_S33x32_1_0)) (row3 b1)

/-- The second layer before its rectifier, from the first layer's output. -/
def pre2 (x : FA S1x4096x32) (W2 : FA S32x32) (b2 : FA S32) : FA S1x4096x32 :=
  addf (Host.dotGeneral dot_S1x4096x32_S32x32_S1x4096x32_2_0_01_1_n_n none x
    (transpose S32x32 [1, 0] W2 transposes_S32x32_S32x32_1_0)) (row3 b2)

/-- The embedding before normalisation. -/
def x2A (H : FA S1x4096x33) (W1 : FA S32x33) (b1 : FA S32) (W2 : FA S32x32) (b2 : FA S32) : FA S1x4096x32 :=
  relu3 (pre2 (relu3 (pre1 H W1 b1)) W2 b2)

/-- A row mean. -/
def meanA (x : FA S1x4096x32) : FA S1x4096x1 :=
  Host.divf (broadcastInDim S1x4096x1 ![0, 1] bcast_S1x4096_S1x4096x1_0_1
      (Host.reduceAdd x (constant S_ .f32 0x00000000#32) reducesTo_S1x4096x32_S1x4096_d2 h_S_))
    (broadcastInDim S1x4096x1 ![] bcast_S_S1x4096x1 (constant S_ .f32 0x42000000#32))

/-- A column over the embedding's shape. -/
def col3 (m : FA S1x4096x1) : FA S1x4096x32 :=
  broadcastInDim S1x4096x32 ![0, 1, 2] bcast_S1x4096x1_S1x4096x32_0_1_2 m

/-- The centred embedding. -/
def cenA (x : FA S1x4096x32) : FA S1x4096x32 := subf x (col3 (meanA x))

/-- The normalised embedding, as rows of nodes. -/
def embA (x : FA S1x4096x32) (g b : FA S32) : FA S4096x32 :=
  shapeCast _ (addf (mulf (Host.divf (cenA x) (col3 (Host.sqrt (addf (meanA (mulf (cenA x) (cenA x)))
    (broadcastInDim S1x4096x1 ![] bcast_S_S1x4096x1 (constant S_ .f32 0x3727C5AC#32)))))) (row3 g)) (row3 b))
    shapeCasts_S1x4096x32_S4096x32

/-- The input side of the gates. -/
def giA (e : FA S4096x32) (Wih : FA S192x32) (bih : FA S192) : FA S4096x192 :=
  addf (Host.dotGeneral dot_S4096x32_S32x192_S4096x192_1_0_0_1_n_n none e
    (transpose S32x192 [1, 0] Wih transposes_S192x32_S32x192_1_0))
    (broadcastInDim S4096x192 ![0, 1] bcast_S1x192_S4096x192_0_1 (broadcastInDim S1x192 ![1] bcast_S192_S1x192_1 bih))

/-- The hidden side of the gates at a zero hidden state: the bias row. -/
def ghA (bhh : FA S192) : FA S4096x192 := broadcastInDim S4096x192 ![1] bcast_S192_S4096x192_1 bhh

/-- A splat on the hidden state's shape. -/
def splatH (w : BitVec 32) : FA S4096x64 := broadcastInDim S4096x64 ![] bcast_S_S4096x64 (constant S_ .f32 w)

/-- The logistic function as the host writes it. -/
def sigA (x : FA S4096x64) : FA S4096x64 :=
  Host.divf (splatH 0x3F800000#32) (addf (splatH 0x3F800000#32) (Host.exp (Host.negf x)))

/-- The update gate. -/
def zA (gi gh : FA S4096x192) : FA S4096x64 :=
  sigA (addf (extractStridedSlice S4096x64 ![0, 64] gi slices_S4096x192_S4096x64_0_64)
    (extractStridedSlice S4096x64 ![0, 64] gh slices_S4096x192_S4096x64_0_64))

/-- The candidate state. -/
def nA (gi gh : FA S4096x192) : FA S4096x64 :=
  Host.tanh (addf (extractStridedSlice S4096x64 ![0, 128] gi slices_S4096x192_S4096x64_0_128)
    (mulf (sigA (addf (extractStridedSlice S4096x64 ![0, 0] gi slices_S4096x192_S4096x64_0_0)
      (extractStridedSlice S4096x64 ![0, 0] gh slices_S4096x192_S4096x64_0_0)))
      (extractStridedSlice S4096x64 ![0, 128] gh slices_S4096x192_S4096x64_0_128)))

/-- The new hidden state from a zero one. -/
def hA (gi gh : FA S4096x192) : FA S4096x64 := mulf (subf (splatH 0x3F800000#32) (zA gi gh)) (nA gi gh)

/-- A table index with jax's wrap of negative words by the table's length, as one column. -/
def wrapE (n : BitVec 32) (i : IA S131072) : IA S131072x1 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 n))) i)

/-- The hidden state's rows at the edges' nodes. -/
def rowsA (h : FA S4096x64) (i : IA S131072) : FA S131072x64 :=
  Host.gather gather_S4096x64_S131072x1_S131072x64_1_0_n_n_0_1_164 h (wrapE 4096#32 i)

/-- Each node's row once per outgoing edge. -/
def repA (h : FA S4096x64) : FA S131072x64 :=
  shapeCast _ (broadcastInDim S4096x32x64 ![0, 2] bcast_S4096x64_S4096x32x64_0_2 h) shapeCasts_S4096x32x64_S131072x64

/-- Two row blocks side by side. -/
def catA (a b : FA S131072x64) : FA S131072x128 :=
  concatenate S131072x128 1 [⟨S131072x64, a⟩, ⟨S131072x64, b⟩] concatenates_S131072x64_S131072x64_S131072x128_d1

/-- The scorer's hidden layer before its rectifier. -/
def scPreA (f : FA S131072x128) (Ws1 : FA S64x128) (bs1 : FA S64) : FA S131072x64 :=
  addf (Host.dotGeneral dot_S131072x128_S128x64_S131072x64_1_0_0_1_n_n none f
    (transpose S128x64 [1, 0] Ws1 transposes_S64x128_S128x64_1_0))
    (broadcastInDim S131072x64 ![0, 1] bcast_S1x64_S131072x64_0_1 (broadcastInDim S1x64 ![1] bcast_S64_S1x64_1 bs1))

/-- The scorer's rectifier. -/
def scReluA (x : FA S131072x64) : FA S131072x64 :=
  maximumf x (broadcastInDim S131072x64 ![] bcast_S_S131072x64 (constant S_ .f32 0x00000000#32))

/-- The scorer's output, one logistic value an edge. -/
def scOutA (x : FA S131072x64) (Ws2 : FA S1x64) (bs2 : FA S1) : FA S131072 :=
  shapeCast _ (Host.divf (broadcastInDim S131072x1 ![] bcast_S_S131072x1 (constant S_ .f32 0x3F800000#32))
    (addf (broadcastInDim S131072x1 ![] bcast_S_S131072x1 (constant S_ .f32 0x3F800000#32))
      (Host.exp (Host.negf (addf (Host.dotGeneral dot_S131072x64_S64x1_S131072x1_1_0_0_1_n_n none x
          (transpose S64x1 [1, 0] Ws2 transposes_S1x64_S64x1_1_0))
        (broadcastInDim S131072x1 ![0, 1] bcast_S1x1_S131072x1_0_1 (broadcastInDim S1x1 ![1] bcast_S1_S1x1_1 bs2)))))))
    shapeCasts_S131072x1_S131072

/-- The score of every edge from the edges' features. -/
def scoreA (f : FA S131072x128) (Ws1 : FA S64x128) (bs1 : FA S64) (Ws2 : FA S1x64) (bs2 : FA S1) : FA S131072 :=
  scOutA (scReluA (scPreA f Ws1 bs1)) Ws2 bs2

/-- The scores, a row a node. -/
def score2A (s : FA S131072) : FA S4096x32 := shapeCast _ s shapeCasts_S131072_S4096x32

/-! ## One round of the selection -/

/-- The row maxima. -/
def maxA (s : FA S4096x32) : FA S4096x1 :=
  broadcastInDim S4096x1 ![0] bcast_S4096_S4096x1_0
    (Host.reduce FloatOps.maximumf s (constant S_ .f32 0xFF800000#32) reducesTo_S4096x32_S4096_d1 h_S_)

/-- One at the entries that equal their row's maximum. -/
def firstA (s : FA S4096x32) : IA S4096x32 :=
  extui 32 (cmpf .oeq s (broadcastInDim S4096x32 ![0, 1] bcast_S4096x1_S4096x32_0_1 (maxA s))) natLt_1_32

/-- The first position of a row's greatest word. -/
def argmaxA (f : IA S4096x32) : IA S4096 := fun j =>
  (Host.reduce2 reducer_argmax_i32_i32 f (iotaInDim S4096x32 32 1) (constantI S_ 32 2147483648#32) (constantI S_ 32 0#32)
    reducesTo_S4096x32_S4096_d1 h_S_ j).2

/-- The position of a row's first maximum. -/
def argA (s : FA S4096x32) : IA S4096x1 := broadcastInDim S4096x1 ![0] bcast_S4096_S4096x1_0 (argmaxA (firstA s))

/-- The position a row is read at, with jax's wrap, as the gather takes it. -/
def takeIdx (i : IA S4096x1) : IA S4096x1x1 :=
  shapeCast _ (select (cmpi .slt i (broadcastInDim S4096x1 ![] bcast_S_S4096x1 (constantI S_ 32 0#32)))
    (addi i (broadcastInDim S4096x1 ![] bcast_S_S4096x1 (constantI S_ 32 32#32))) i) shapeCasts_S4096x1_S4096x1x1

/-- One where the position lies in the row. -/
def takeOk (i : IA S4096x1x1) : IVec S4096x1 1 :=
  Host.reduce IntOp.andi (andi (cmpi .sge i (broadcastInDim S4096x1x1 ![] bcast_S_S4096x1x1 (constantI S_ 32 0#32)))
    (cmpi .sle i (broadcastInDim S4096x1x1 ![0, 1, 2] bcast_S1x1x1_S4096x1x1_0_1_2
      (broadcastInDim S1x1x1 ![2] bcast_S1_S1x1x1_2 (constantI S1 32 31#32)))))
    (constantI S_ 1 1#1) reducesTo_S4096x1x1_S4096x1_d2 h_S_

/-- One entry of each row. -/
def takeA (d : IA S4096x32) (i : IA S4096x1) : IA S4096x1 :=
  select (takeOk (takeIdx i)) (Host.gather gather_S4096x32_S4096x1x1_S4096x1_n_1_0_0_1_2_11 d (takeIdx i))
    (broadcastInDim S4096x1 ![] bcast_S_S4096x1 (constantI S_ 32 2147483648#32))

/-- The rows with one entry set to −∞. -/
def maskA (i : IA S4096x1) (s : FA S4096x32) : FA S4096x32 :=
  select (cmpi .eq (broadcastInDim S4096x32 ![0, 1] bcast_S1x32_S4096x32_0_1
      (broadcastInDim S1x32 ![1] bcast_S32_S1x32_1 (iotaInDim S32 32 0)))
    (broadcastInDim S4096x32 ![0, 1] bcast_S4096x1_S4096x32_0_1 i))
    (broadcastInDim S4096x32 ![] bcast_S_S4096x32 (id (constant S_ .f32 0xFF800000#32))) s

/-- The scores after a round. -/
def nextA (s : FA S4096x32) : FA S4096x32 := maskA (argA s) s

/-- Four columns side by side, of floats. -/
def cat4F (a b c d : FA S4096x1) : FA S4096x4 :=
  concatenate S4096x4 1 [⟨S4096x1, a⟩, ⟨S4096x1, b⟩, ⟨S4096x1, c⟩, ⟨S4096x1, d⟩] concatenates_S4096x1_S4096x1_S4096x1_S4096x1_S4096x4_d1

/-- Four columns side by side, of words. -/
def cat4I (a b c d : IA S4096x1) : IA S4096x4 :=
  concatenate S4096x4 1 [⟨S4096x1, a⟩, ⟨S4096x1, b⟩, ⟨S4096x1, c⟩, ⟨S4096x1, d⟩] concatenates_S4096x1_S4096x1_S4096x1_S4096x1_S4096x4_d1

/-- The four weights of every node. -/
def topWA (s : FA S4096x32) : FA S4096x4 :=
  cat4F (maxA s) (maxA (nextA s)) (maxA (nextA (nextA s))) (maxA (nextA (nextA (nextA s))))

/-- The four targets of every node. -/
def topDA (d : IA S4096x32) (s : FA S4096x32) : IA S4096x4 :=
  cat4I (takeA d (argA s)) (takeA d (argA (nextA s))) (takeA d (argA (nextA (nextA s))))
    (takeA d (argA (nextA (nextA (nextA s)))))

end Cert.Gnn

end
-- ==== Proof.HostLine.lean ====
/- What each stretch of the kernel program's host operations leaves, over any contents it starts from, in the arrays of
   `Arrays`. -/
module

public import proofs.«01_k».proof.Proof.Arrays
public import proofs.«01_k».proof.Proof.Gen.KernelIdeal.Frame

@[expose] public section

set_option maxRecDepth 16384

noncomputable section

namespace Cert.Gnn

open Cert.KernelIdeal Cert.KernelIdeal.Gen Idealize.ShloMosaic Idealize.ShloMosaic.TcCoe Idealize.ShloMosaic.StableHlo

variable (V : Valuation τ sig (Elt Ideal))

theorem line_v56 : after hostOps1 V main_v56 = pre1 (V main_arg0) (V main_arg3) (V main_arg4) := by
  after_results; rfl

theorem line_v57 : after hostOps1_1 V main_v57 = relu3 (V main_v56) := by after_results; rfl

theorem line_v62 : after hostOps1_2 V main_v62 = pre2 (V main_v57) (V main_arg5) (V main_arg6) := by
  after_results; rfl

theorem line_v63 : after hostOps1_3 V main_v63 = relu3 (V main_v62) := by after_results; rfl

set_option maxHeartbeats 4000000 in
theorem line_v135 : after hostOps1_4 V main_v135 =
    scPreA (catA (repA (hA (giA (embA (V main_v63) (V main_arg7) (V main_arg8)) (V main_arg9) (V main_arg10)) (ghA (V main_arg12))))
      (rowsA (hA (giA (embA (V main_v63) (V main_arg7) (V main_arg8)) (V main_arg9) (V main_arg10)) (ghA (V main_arg12)))
        (V main_arg2))) (V main_arg13) (V main_arg14) := by
  after_results; rfl

theorem line_v136 : after hostOps1_5 V main_v136 = scReluA (V main_v135) := by after_results; rfl

/-- The six arrays the first round reads. -/
theorem line_score : after hostOps1_6 V main_v149 = score2A (scOutA (V main_v136) (V main_arg15) (V main_arg16)) := by
  after_results; rfl
theorem line_v150 : after hostOps1_6 V main_v150 = shapeCast S4096x32 (V main_arg2 : IVec S131072 32) shapeCasts_S131072_S4096x32 := by
  after_results; rfl
theorem line_v152 : after hostOps1_6 V main_v152 = broadcastInDim S1x32 ![1] bcast_S32_S1x32_1 (iotaInDim S32 32 0) := by
  after_results
theorem line_v154 : after hostOps1_6 V main_v154 = maxA (score2A (scOutA (V main_v136) (V main_arg15) (V main_arg16))) := by
  after_results; rfl
theorem line_v157 : after hostOps1_6 V main_v157 = firstA (score2A (scOutA (V main_v136) (V main_arg15) (V main_arg16))) := by
  after_results; rfl

/-! ## The four rounds: the row maxima and their marks, the first mark's position, the entry taken, the masked scores -/

/-- A column of positions. -/
def colI (i : IVec S4096 32) : IVec S4096x1 32 := broadcastInDim S4096x1 ![0] bcast_S4096_S4096x1_0 i

/-- The positions 0..31 as a row. -/
def posA : IVec S1x32 32 := broadcastInDim S1x32 ![1] bcast_S32_S1x32_1 (iotaInDim S32 32 0)

theorem line_v158 : after hostOps1_7 V main_v158 = argmaxA (V main_v157) := by after_results; rfl
theorem line_v159 : after hostOps1_8 V main_v159 = colI (V main_v158) := by after_results; rfl
theorem line_v160 : after hostOps1_9 V main_v160 = takeA (V main_v150) (V main_v159) := by after_results; rfl
theorem line_v164 (h : V main_v152 = posA) :
    after hostOps1_11 (after hostOps1_10 V) main_v164 = maskA (V main_v159) (V main_v149) := by
  after_results; rw [h]; rfl

theorem line_v166 : after hostOps1_12 V main_v166 = maxA (V main_v164) := by after_results; rfl
theorem line_v169 : after hostOps1_12 V main_v169 = firstA (V main_v164) := by after_results; rfl
theorem line_v170 : after hostOps1_13 V main_v170 = argmaxA (V main_v169) := by after_results; rfl
theorem line_v171 : after hostOps1_14 V main_v171 = colI (V main_v170) := by after_results; rfl
theorem line_v172 : after hostOps1_15 V main_v172 = takeA (V main_v150) (V main_v171) := by after_results; rfl
theorem line_v176 (h : V main_v152 = posA) :
    after hostOps1_17 (after hostOps1_16 V) main_v176 = maskA (V main_v171) (V main_v164) := by
  after_results; rw [h]; rfl

theorem line_v178 : after hostOps1_18 V main_v178 = maxA (V main_v176) := by after_results; rfl
theorem line_v181 : after hostOps1_18 V main_v181 = firstA (V main_v176) := by after_results; rfl
theorem line_v182 : after hostOps1_19 V main_v182 = argmaxA (V main_v181) := by after_results; rfl
theorem line_v183 : after hostOps1_20 V main_v183 = colI (V main_v182) := by after_results; rfl
theorem line_v184 : after hostOps1_21 V main_v184 = takeA (V main_v150) (V main_v183) := by after_results; rfl
theorem line_v188 (h : V main_v152 = posA) :
    after hostOps1_23 (after hostOps1_22 V) main_v188 = maskA (V main_v183) (V main_v176) := by
  after_results; rw [h]; rfl

theorem line_v190 : after hostOps1_24 V main_v190 = maxA (V main_v188) := by after_results; rfl
theorem line_v193 : after hostOps1_24 V main_v193 = firstA (V main_v188) := by after_results; rfl
theorem line_v194 : after hostOps1_25 V main_v194 = argmaxA (V main_v193) := by after_results; rfl
theorem line_v195 : after hostOps1_26 V main_v195 = colI (V main_v194) := by after_results; rfl
theorem line_v196 : after hostOps1_27 V main_v196 = takeA (V main_v150) (V main_v195) := by after_results; rfl

/-! ## The edge arrays -/

theorem line_v201 : after hostOps1_30 V main_v201 = cat4F (V main_v154) (V main_v166) (V main_v178) (V main_v190) := by
  after_results; rfl
theorem line_v202 : after hostOps1_30 V main_v202 = cat4I (V main_v160) (V main_v172) (V main_v184) (V main_v196) := by
  after_results; rfl

/-- A node's row of four heads, once per kept edge. -/
def rep4 (x : FVec Ideal S4096x4 .f32) : FVec Ideal S16384x4 .f32 :=
  shapeCast _ (broadcastInDim S4096x4x4 ![0, 2] bcast_S4096x4_S4096x4x4_0_2 x) shapeCasts_S4096x4x4_S16384x4
/-- A node's row of thirty-two features, once per kept edge. -/
def rep32 (x : FVec Ideal S4096x32 .f32) : FVec Ideal S16384x32 .f32 :=
  shapeCast _ (broadcastInDim S4096x4x32 ![0, 2] bcast_S4096x32_S4096x4x32_0_2 x) shapeCasts_S4096x4x32_S16384x32
/-- Which of thirty-two features belong to which of four heads, as zeros and ones. -/
def exp8A : FVec Ideal S4x32 .f32 :=
  shapeCast _ (broadcastInDim S4x4x8 ![0, 1] bcast_S4x4_S4x4x8_0_1 (uitofp (F := Ideal) .f32
    (cmpi .eq (addi (iotaInDim S4x4 32 0) (broadcastInDim S4x4 ![] bcast_S_S4x4 (constantI S_ 32 0#32))) (iotaInDim S4x4 32 1))))
    shapeCasts_S4x4x8_S4x32

theorem line_v204 : after hostOps1_30 V main_v204 = rep4 (V main_v51_4) := by after_results; rfl
theorem line_v206 : after hostOps1_30 V main_v206 = rep32 (V main_v51_3) := by after_results; rfl
theorem line_v217 : after hostOps1_30 V main_v217 = exp8A := by after_results; rfl
theorem line_v207 : after hostOps1_30 V main_v207 =
    shapeCast S16384x1 (cat4I (V main_v160) (V main_v172) (V main_v184) (V main_v196)) shapeCasts_S4096x4_S16384x1 := by
  after_results; rfl
theorem line_v208 : after hostOps1_30 V main_v208 =
    shapeCast S1x16384 (cat4I (V main_v160) (V main_v172) (V main_v184) (V main_v196)) shapeCasts_S4096x4_S1x16384 := by
  after_results; rfl
theorem line_v209 : after hostOps1_30 V main_v209 =
    shapeCast S16384x1 (cat4F (V main_v154) (V main_v166) (V main_v178) (V main_v190)) shapeCasts_S4096x4_S16384x1 := by
  after_results; rfl

end Cert.Gnn

end
-- ==== Proof.PreludeLines.lean ====
/- What the kernel program's host operations around the first kernel leave: its weights, transposed and as rows, and the two
   attention vectors spread over heads. -/
module

public import proofs.«01_k».proof.Proof.HostLine
public import Idealize.ShloMosaic.Lib.Pointwise
public import Idealize.ShloMosaic.Lib.Routing.OpsPair
public import Idealize.ShloMosaic.Lib.Routing.OpsSet

@[expose] public section

set_option maxRecDepth 16384

noncomputable section

namespace Cert.Gnn

open Cert.KernelIdeal Cert.KernelIdeal.Gen Idealize.ShloMosaic Idealize.ShloMosaic.TcCoe Idealize.ShloMosaic.StableHlo
open Idealize.ShloMosaic.Pointwise

variable (V : Valuation τ sig (Elt Ideal))

/-! ## The two attention vectors spread over heads -/

/-- Truncated division corrected to a floor, as jax writes it. -/
def floorA (x : IVec S32 32) (d : IVec S_ 32) : IVec S32 32 :=
  select (andi (cmpi .ne (signi x) (broadcastInDim S32 ![] bcast_S_S32 (signi d)))
      (cmpi .ne (Host.remsi x (broadcastInDim S32 ![] bcast_S_S32 d)) (broadcastInDim S32 ![] bcast_S_S32 (constantI S_ 32 0#32))))
    (subi (Host.divsi x (broadcastInDim S32 ![] bcast_S_S32 d)) (broadcastInDim S32 ![] bcast_S_S32 (constantI S_ 32 1#32)))
    (Host.divsi x (broadcastInDim S32 ![] bcast_S_S32 d))

/-- A word with jax's wrap of negative words by `n`. -/
def wrap32 (n : BitVec 32) (i : IVec S32 32) : IVec S32x1 32 :=
  broadcastInDim S32x1 ![0] bcast_S32_S32x1_0
    (select (cmpi .slt i (broadcastInDim S32 ![] bcast_S_S32 (constantI S_ 32 0#32)))
      (addi i (broadcastInDim S32 ![] bcast_S_S32 (constantI S_ 32 n))) i)

/-- The places the features go to: feature `x` to row `x`, column `f x`. -/
def placeA (f : IVec S32 32) : IVec S32x2 32 :=
  concatenate S32x2 1 [⟨S32x1, wrap32 32#32 (iotaInDim S32 32 0)⟩, ⟨S32x1, wrap32 4#32 f⟩] concatenates_S32x1_S32x1_S32x2_d1

/-- The feature's head. -/
def headA : IVec S32 32 := floorA (iotaInDim S32 32 0) (constantI S_ 32 8#32)

/-- An attention vector spread over heads. -/
def spreadA (z : FVec Ideal S32x4 .f32) (f : IVec S32 32) (a : FVec Ideal S4x8 .f32) : FVec Ideal S32x4 .f32 :=
  Host.scatter scatter_S32x4_S32x2_S32_n_01_01_1 (fun _ b => b) z (placeA f) (shapeCast S32 a shapeCasts_S4x8_S32)

/-- Zeros. -/
def zero4 : FVec Ideal S32x4 .f32 := broadcastInDim S32x4 ![] bcast_S_S32x4 (constant S_ .f32 0x00000000#32)

theorem line_v0 : after hostOps0 V main_v0 = shapeCast S4096x33 (V main_arg0 : FVec Ideal S1x4096x33 .f32) shapeCasts_S1x4096x33_S4096x33 := by
  after_results; rfl
theorem line_v1 : after hostOps0 V main_v1 = zero4 := by after_results; rfl
theorem line_v2 : after hostOps0 V main_v2 = zero4 := by after_results; rfl
theorem line_v3 : after hostOps0 V main_v3 = iotaInDim S32 32 0 := by after_results
theorem line_c : after hostOps0 V main_c = constantI S_ 32 8#32 := by after_results
theorem line_v4 : after hostOps0_1 V main_v4 = floorA (V main_v3) (V main_c) := by after_results; rfl
theorem line_v20 : after hostOps0_2 V main_v20 = spreadA (V main_v1) (V main_v4) (V main_arg18) := by after_results; rfl
theorem line_v36 : after hostOps0_2 V main_v36 = spreadA (V main_v2) (V main_v4) (V main_arg19) := by after_results; rfl
theorem line_v37 : after hostOps0_2 V main_v37 = transpose S33x32 [1, 0] (V main_arg3 : FVec Ideal S32x33 .f32) transposes_S32x33_S33x32_1_0 := by
  after_results
theorem line_v38 : after hostOps0_2 V main_v38 = broadcastInDim S1x32 ![1] bcast_S32_S1x32_1 (V main_arg4 : FVec Ideal S32 .f32) := by
  after_results
theorem line_v39 : after hostOps0_2 V main_v39 = transpose S32x32 [1, 0] (V main_arg5 : FVec Ideal S32x32 .f32) transposes_S32x32_S32x32_1_0 := by
  after_results
theorem line_v40 : after hostOps0_2 V main_v40 = broadcastInDim S1x32 ![1] bcast_S32_S1x32_1 (V main_arg6 : FVec Ideal S32 .f32) := by
  after_results
theorem line_v41 : after hostOps0_2 V main_v41 = broadcastInDim S1x32 ![1] bcast_S32_S1x32_1 (V main_arg7 : FVec Ideal S32 .f32) := by
  after_results
theorem line_v42 : after hostOps0_2 V main_v42 = broadcastInDim S1x32 ![1] bcast_S32_S1x32_1 (V main_arg8 : FVec Ideal S32 .f32) := by
  after_results
theorem line_v43 : after hostOps0_2 V main_v43 = transpose S32x192 [1, 0] (V main_arg9 : FVec Ideal S192x32 .f32) transposes_S192x32_S32x192_1_0 := by
  after_results
theorem line_v44 : after hostOps0_2 V main_v44 = broadcastInDim S1x192 ![1] bcast_S192_S1x192_1 (V main_arg10 : FVec Ideal S192 .f32) := by
  after_results
theorem line_v45 : after hostOps0_2 V main_v45 = broadcastInDim S1x192 ![1] bcast_S192_S1x192_1 (V main_arg12 : FVec Ideal S192 .f32) := by
  after_results
theorem line_v50 : after hostOps0_2 V main_v50 = transpose S64x32 [1, 0] (V main_arg17 : FVec Ideal S32x64 .f32) transposes_S32x64_S64x32_1_0 := by
  after_results
theorem line_v220 : after hostOps3 V main_v220 = shapeCast S1x32 (V main_arg20 : FVec Ideal S32 .f32) shapeCasts_S32_S1x32 := by
  after_results; rfl
theorem line_v223 : after hostOps5 V main_v223 = shapeCast S4096x16 (V main_v222 : FVec Ideal S16384x4 .f32) shapeCasts_S16384x4_S4096x16 := by
  after_results; rfl
theorem line_v225 : after hostOps6 V main_v225 =
    broadcastInDim S1x4096x32 ![1, 2] bcast_S4096x32_S1x4096x32_1_2 (V main_v221_1 : FVec Ideal S4096x32 .f32) := by
  after_results
theorem line_v226 : after hostOps6 V main_v226 =
    broadcastInDim S1x4x4096x4096 ![1, 2, 3] bcast_S4x4096x4096_S1x4x4096x4096_1_2_3 (V main_v224 : FVec Ideal S4x4096x4096 .f32) := by
  after_results

theorem headA_at (k : Fin 32) : headA (ix1 k) = BitVec.ofNat 32 (k.val / 8) := by
  unfold headA floorA
  pointwise []
  revert k
  decide +kernel

theorem place_row (f : IVec S32 32) (k : Fin 32) : placeA f (ix2 k 0) = BitVec.ofNat 32 k.val := by
  unfold placeA wrap32
  pointwise []
  revert k
  decide +kernel

theorem place_col (k : Fin 32) : placeA headA (ix2 k 1) = BitVec.ofNat 32 (k.val / 8) := by
  unfold placeA wrap32
  pointwise [headA_at]
  revert k
  decide +kernel

/-- Where a feature's entry lands. -/
theorem landsP (k x : Fin 32) (q : Fin 4) :
    scatter_S32x4_S32x2_S32_n_01_01_1.resultIdx? (ix1 k) (placeA headA) = some (ix2 x q) ↔ k = x ∧ k.val / 8 = q.val := by
  refine (Routing.resultIdx?_ix2 (R := 32) (C := 4) scatter_S32x4_S32x2_S32_n_01_01_1 (ix1 k) (placeA headA) x q).trans ?_
  have s0 : scatter_S32x4_S32x2_S32_n_01_01_1.start (ix1 k) (placeA headA) 0 = (BitVec.ofNat 32 k.val).toInt := by
    unfold ScatterDims.start
    rw [dif_pos (show (0 : Fin 2) ∈ scatter_S32x4_S32x2_S32_n_01_01_1.scatterDimsToOperandDims from List.mem_cons_self ..),
      ← place_row headA]
    congr 2
    funext a
    refine Fin.ext ?_
    match a with
    | ⟨0, _⟩ => rfl
    | ⟨1, _⟩ => rfl
  have s1 : scatter_S32x4_S32x2_S32_n_01_01_1.start (ix1 k) (placeA headA) 1 = (BitVec.ofNat 32 (k.val / 8)).toInt := by
    unfold ScatterDims.start
    rw [dif_pos (show (1 : Fin 2) ∈ scatter_S32x4_S32x2_S32_n_01_01_1.scatterDimsToOperandDims from List.mem_of_elem_eq_true rfl),
      ← place_col]
    congr 2
    funext a
    refine Fin.ext ?_
    match a with
    | ⟨0, _⟩ => rfl
    | ⟨1, _⟩ => rfl
  have w0 : scatter_S32x4_S32x2_S32_n_01_01_1.window (ix1 k) 0 = 0 := rfl
  have w1 : scatter_S32x4_S32x2_S32_n_01_01_1.window (ix1 k) 1 = 0 := rfl
  rw [s0, s1, w0, w1]
  revert k x q
  decide +kernel

/-- An attention vector's spread at an index: the feature's entry in its own head's column, zero elsewhere. -/
theorem spread_at (a : FVec Ideal S4x8 .f32) (x : Fin 32) (q : Fin 4) :
    spreadA zero4 headA a (ix2 x q)
      = if x.val / 8 = q.val then a (ix2 q ⟨x.val % 8, Nat.mod_lt _ (by omega)⟩) else 0 := by
  unfold spreadA
  split
  · next hq =>
    refine Routing.scatter_set_hit _ _ _ _ _ _ (fun k hk => ?_) (ix1 x) ((landsP x x q).mpr ⟨rfl, hq⟩)
    idx_vars k
    obtain ⟨rfl, _⟩ := (landsP _ x q).mp hk
    pointwise []
    exact congrArg (fun r => a (ix2 r ⟨_, Nat.mod_lt _ (by omega)⟩)) (Fin.ext hq)
  · next hq =>
    rw [Routing.scatter_set_miss]
    · pointwise [zero4]
    · intro k hk
      idx_vars k
      obtain ⟨rfl, h⟩ := (landsP _ x q).mp hk
      exact hq h

theorem rep4_at (x : FVec Ideal S4096x4 .f32) (e : Fin 16384) (h : Fin 4) (n : Fin 4096) (hn : e.val / 4 = n.val) :
    rep4 x (ix2 e h) = x (ix2 n h) := by
  pointwise [rep4]
  exact congrArg (fun r => x (ix2 r h)) (Fin.ext hn)

theorem rep32_at (x : FVec Ideal S4096x32 .f32) (e : Fin 16384) (h : Fin 32) (n : Fin 4096) (hn : e.val / 4 = n.val) :
    rep32 x (ix2 e h) = x (ix2 n h) := by
  pointwise [rep32]
  exact congrArg (fun r => x (ix2 r h)) (Fin.ext hn)

theorem exp8_at (x : Fin 4) (j : Fin 32) : exp8A (ix2 x j) = if j.val / 8 = x.val then 1 else 0 := by
  pointwise [exp8A]
  have hw : (IntOp.addi (BitVec.ofNat 32 x.val) 0#32 = BitVec.ofNat 32 (j.val / 8)) ↔ j.val / 8 = x.val := by
    revert x j
    decide +kernel
  by_cases h : j.val / 8 = x.val
  · rw [if_pos h, hw.mpr h]
    simp [IntOp.cmpi, FloatOps.uitofp]
  · rw [if_neg h]
    have := mt hw.mp h
    simp [IntOp.cmpi, FloatOps.uitofp, this]

end Cert.Gnn

end
-- ==== Proof.Chain.lean ====
/- The kernel program's host arrays through its four selection rounds, from its arguments. -/
module

public import proofs.«01_k».proof.Proof.PreludeLines

@[expose] public section

set_option maxRecDepth 16384

noncomputable section

namespace Cert.Gnn

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := m ((c : Thread nD τ).loc r)

/-- The hidden state. -/
def hidA : FVec Ideal S4096x64 .f32 :=
  hA (giA (embA (x2A (arg m c main_arg0) (arg m c main_arg3) (arg m c main_arg4) (arg m c main_arg5) (arg m c main_arg6))
    (arg m c main_arg7) (arg m c main_arg8)) (arg m c main_arg9) (arg m c main_arg10)) (ghA (arg m c main_arg12))

/-- The scores, a row a node. -/
def scoA : FVec Ideal S4096x32 .f32 :=
  score2A (scoreA (catA (repA (hidA m c)) (rowsA (hidA m c) (arg m c main_arg2))) (arg m c main_arg13) (arg m c main_arg14)
    (arg m c main_arg15) (arg m c main_arg16))

/-- The targets, a row a node. -/
def dstA : IVec S4096x32 32 := shapeCast S4096x32 (arg m c main_arg2 : IVec S131072 32) shapeCasts_S131072_S4096x32

/-- A membership among the arguments. -/
theorem argMem (r : Ref sig .tc) (h : decide (r ∈ argRefs) = true) : r ∈ argRefs := of_decide_eq_true h

/-- What the scoring does not write, it keeps. -/
theorem keepS (r : Ref sig .tc) (h : r ∉ hostOps1_W ∧ r ∉ hostOps1_1_W ∧ r ∉ hostOps1_2_W ∧ r ∉ hostOps1_3_W ∧ r ∉ hostOps1_4_W ∧ r ∉ hostOps1_5_W ∧ r ∉ hostOps1_6_W) :
    W11 m ρ c (Proc.devRef .tc r) = W4 m ρ c (Proc.devRef .tc r) := by
  obtain ⟨h5, h6, h7, h8, h9, h10, h11⟩ := h
  rw [W11_of m ρ c r h11, W10_of m ρ c r h10, W9_of m ρ c r h9, W8_of m ρ c r h8, W7_of m ρ c r h7, W6_of m ρ c r h6, W5_of m ρ c r h5]

/-- What the round does not write, it keeps. -/
theorem keep0 (r : Ref sig .tc) (h : r ∉ hostOps1_7_W ∧ r ∉ hostOps1_8_W ∧ r ∉ hostOps1_9_W ∧ r ∉ hostOps1_10_W ∧ r ∉ hostOps1_11_W) :
    W16 m ρ c (Proc.devRef .tc r) = W11 m ρ c (Proc.devRef .tc r) := by
  obtain ⟨h12, h13, h14, h15, h16⟩ := h
  rw [W16_of m ρ c r h16, W15_of m ρ c r h15, W14_of m ρ c r h14, W13_of m ρ c r h13, W12_of m ρ c r h12]

/-- What the round does not write, it keeps. -/
theorem keep1 (r : Ref sig .tc) (h : r ∉ hostOps1_12_W ∧ r ∉ hostOps1_13_W ∧ r ∉ hostOps1_14_W ∧ r ∉ hostOps1_15_W ∧ r ∉ hostOps1_16_W ∧ r ∉ hostOps1_17_W) :
    W22 m ρ c (Proc.devRef .tc r) = W16 m ρ c (Proc.devRef .tc r) := by
  obtain ⟨h17, h18, h19, h20, h21, h22⟩ := h
  rw [W22_of m ρ c r h22, W21_of m ρ c r h21, W20_of m ρ c r h20, W19_of m ρ c r h19, W18_of m ρ c r h18, W17_of m ρ c r h17]

/-- What the round does not write, it keeps. -/
theorem keep2 (r : Ref sig .tc) (h : r ∉ hostOps1_18_W ∧ r ∉ hostOps1_19_W ∧ r ∉ hostOps1_20_W ∧ r ∉ hostOps1_21_W ∧ r ∉ hostOps1_22_W ∧ r ∉ hostOps1_23_W) :
    W28 m ρ c (Proc.devRef .tc r) = W22 m ρ c (Proc.devRef .tc r) := by
  obtain ⟨h23, h24, h25, h26, h27, h28⟩ := h
  rw [W28_of m ρ c r h28, W27_of m ρ c r h27, W26_of m ρ c r h26, W25_of m ρ c r h25, W24_of m ρ c r h24, W23_of m ρ c r h23]

/-- What the round does not write, it keeps. -/
theorem keep3 (r : Ref sig .tc) (h : r ∉ hostOps1_24_W ∧ r ∉ hostOps1_25_W ∧ r ∉ hostOps1_26_W ∧ r ∉ hostOps1_27_W ∧ r ∉ hostOps1_28_W ∧ r ∉ hostOps1_29_W) :
    W34 m ρ c (Proc.devRef .tc r) = W28 m ρ c (Proc.devRef .tc r) := by
  obtain ⟨h29, h30, h31, h32, h33, h34⟩ := h
  rw [W34_of m ρ c r h34, W33_of m ρ c r h33, W32_of m ρ c r h32, W31_of m ρ c r h31, W30_of m ρ c r h30, W29_of m ρ c r h29]

theorem at_v63 : W8 m ρ c main_v63 = x2A (arg m c main_arg0) (arg m c main_arg3) (arg m c main_arg4) (arg m c main_arg5) (arg m c main_arg6) := by
  show after hostOps1_3 (W7 m ρ c) main_v63 = _
  rw [line_v63, show W7 m ρ c main_v62 = pre2 (W6 m ρ c main_v57) (W6 m ρ c main_arg5) (W6 m ρ c main_arg6) from line_v62 (W6 m ρ c),
    W6_args m ρ c main_arg5 (argMem _ rfl), W6_args m ρ c main_arg6 (argMem _ rfl),
    show W6 m ρ c main_v57 = relu3 (W5 m ρ c main_v56) from line_v57 (W5 m ρ c),
    show W5 m ρ c main_v56 = pre1 (W4 m ρ c main_arg0) (W4 m ρ c main_arg3) (W4 m ρ c main_arg4) from line_v56 (W4 m ρ c),
    W4_args m ρ c main_arg0 (argMem _ rfl), W4_args m ρ c main_arg3 (argMem _ rfl), W4_args m ρ c main_arg4 (argMem _ rfl)]
  rfl

theorem at_v135 : W9 m ρ c main_v135 = scPreA (catA (repA (hidA m c)) (rowsA (hidA m c) (arg m c main_arg2))) (arg m c main_arg13) (arg m c main_arg14) := by
  show after hostOps1_4 (W8 m ρ c) main_v135 = _
  rw [line_v135, at_v63, W8_args m ρ c main_arg7 (argMem _ rfl), W8_args m ρ c main_arg8 (argMem _ rfl),
    W8_args m ρ c main_arg9 (argMem _ rfl), W8_args m ρ c main_arg10 (argMem _ rfl), W8_args m ρ c main_arg12 (argMem _ rfl),
    W8_args m ρ c main_arg2 (argMem _ rfl), W8_args m ρ c main_arg13 (argMem _ rfl), W8_args m ρ c main_arg14 (argMem _ rfl)]
  rfl

theorem at_v136 : W10 m ρ c main_v136 = scReluA (scPreA (catA (repA (hidA m c)) (rowsA (hidA m c) (arg m c main_arg2))) (arg m c main_arg13) (arg m c main_arg14)) := by
  show after hostOps1_5 (W9 m ρ c) main_v136 = _
  rw [line_v136, at_v135]

theorem at_scores : score2A (scOutA (W10 m ρ c main_v136) (W10 m ρ c main_arg15) (W10 m ρ c main_arg16)) = scoA m c := by
  rw [at_v136, W10_args m ρ c main_arg15 (argMem _ rfl), W10_args m ρ c main_arg16 (argMem _ rfl)]
  rfl

theorem at_v149 : W11 m ρ c main_v149 = scoA m c := (line_score (W10 m ρ c)).trans (at_scores m ρ c)
theorem at_v154 : W11 m ρ c main_v154 = maxA (scoA m c) := (line_v154 (W10 m ρ c)).trans (congrArg maxA (at_scores m ρ c))
theorem at_v157 : W11 m ρ c main_v157 = firstA (scoA m c) := (line_v157 (W10 m ρ c)).trans (congrArg firstA (at_scores m ρ c))
theorem at_v152 : W11 m ρ c main_v152 = posA := line_v152 (W10 m ρ c)
theorem at_v150 : W11 m ρ c main_v150 = dstA m c := by
  show after hostOps1_6 (W10 m ρ c) main_v150 = _
  rw [line_v150, W10_args m ρ c main_arg2 (argMem _ rfl)]
  rfl

theorem at_v159 : W13 m ρ c main_v159 = argA (scoA m c) := by
  rw [show W13 m ρ c main_v159 = colI (W12 m ρ c main_v158) from line_v159 (W12 m ρ c),
    show W12 m ρ c main_v158 = argmaxA (W11 m ρ c main_v157) from line_v158 (W11 m ρ c), at_v157]
  rfl

theorem at_v160 : W14 m ρ c main_v160 = takeA (dstA m c) (argA (scoA m c)) := by
  rw [show W14 m ρ c main_v160 = takeA (W13 m ρ c main_v150) (W13 m ρ c main_v159) from line_v160 (W13 m ρ c),
    at_v159, W13_of m ρ c main_v150 (by decide +kernel), W12_of m ρ c main_v150 (by decide +kernel), at_v150]

theorem at_v164 : W16 m ρ c main_v164 = nextA (scoA m c) := by
  rw [show W16 m ρ c main_v164 = maskA (W14 m ρ c main_v159) (W14 m ρ c main_v149) from
    line_v164 (W14 m ρ c) (by rw [W14_of m ρ c main_v152 (by decide +kernel), W13_of m ρ c main_v152 (by decide +kernel), W12_of m ρ c main_v152 (by decide +kernel), at_v152]),
    W14_of m ρ c main_v159 (by decide +kernel), at_v159, W14_of m ρ c main_v149 (by decide +kernel), W13_of m ρ c main_v149 (by decide +kernel), W12_of m ρ c main_v149 (by decide +kernel), at_v149]
  rfl

theorem at_v166 : W17 m ρ c main_v166 = maxA (nextA (scoA m c)) := (line_v166 (W16 m ρ c)).trans (congrArg maxA (at_v164 m ρ c))
theorem at_v169 : W17 m ρ c main_v169 = firstA (nextA (scoA m c)) := (line_v169 (W16 m ρ c)).trans (congrArg firstA (at_v164 m ρ c))

theorem at16_v150 : W16 m ρ c main_v150 = dstA m c := (keep0 m ρ c main_v150 (by decide +kernel)).trans (at_v150 m ρ c)
theorem at16_v152 : W16 m ρ c main_v152 = posA := (keep0 m ρ c main_v152 (by decide +kernel)).trans (at_v152 m ρ c)

theorem at_v171 : W19 m ρ c main_v171 = argA (nextA (scoA m c)) := by
  rw [show W19 m ρ c main_v171 = colI (W18 m ρ c main_v170) from line_v171 (W18 m ρ c),
    show W18 m ρ c main_v170 = argmaxA (W17 m ρ c main_v169) from line_v170 (W17 m ρ c), at_v169]
  rfl

theorem at_v172 : W20 m ρ c main_v172 = takeA (dstA m c) (argA (nextA (scoA m c))) := by
  rw [show W20 m ρ c main_v172 = takeA (W19 m ρ c main_v150) (W19 m ρ c main_v171) from line_v172 (W19 m ρ c),
    at_v171, W19_of m ρ c main_v150 (by decide +kernel), W18_of m ρ c main_v150 (by decide +kernel), W17_of m ρ c main_v150 (by decide +kernel), at16_v150]

theorem at_v176 : W22 m ρ c main_v176 = nextA (nextA (scoA m c)) := by
  rw [show W22 m ρ c main_v176 = maskA (W20 m ρ c main_v171) (W20 m ρ c main_v164) from
    line_v176 (W20 m ρ c) (by rw [W20_of m ρ c main_v152 (by decide +kernel), W19_of m ρ c main_v152 (by decide +kernel), W18_of m ρ c main_v152 (by decide +kernel), W17_of m ρ c main_v152 (by decide +kernel), at16_v152]),
    W20_of m ρ c main_v171 (by decide +kernel), at_v171, W20_of m ρ c main_v164 (by decide +kernel), W19_of m ρ c main_v164 (by decide +kernel), W18_of m ρ c main_v164 (by decide +kernel), W17_of m ρ c main_v164 (by decide +kernel), at_v164]
  rfl

theorem at_v178 : W23 m ρ c main_v178 = maxA (nextA (nextA (scoA m c))) := (line_v178 (W22 m ρ c)).trans (congrArg maxA (at_v176 m ρ c))
theorem at_v181 : W23 m ρ c main_v181 = firstA (nextA (nextA (scoA m c))) := (line_v181 (W22 m ρ c)).trans (congrArg firstA (at_v176 m ρ c))

theorem at22_v150 : W22 m ρ c main_v150 = dstA m c := (keep1 m ρ c main_v150 (by decide +kernel)).trans (at16_v150 m ρ c)
theorem at22_v152 : W22 m ρ c main_v152 = posA := (keep1 m ρ c main_v152 (by decide +kernel)).trans (at16_v152 m ρ c)

theorem at_v183 : W25 m ρ c main_v183 = argA (nextA (nextA (scoA m c))) := by
  rw [show W25 m ρ c main_v183 = colI (W24 m ρ c main_v182) from line_v183 (W24 m ρ c),
    show W24 m ρ c main_v182 = argmaxA (W23 m ρ c main_v181) from line_v182 (W23 m ρ c), at_v181]
  rfl

theorem at_v184 : W26 m ρ c main_v184 = takeA (dstA m c) (argA (nextA (nextA (scoA m c)))) := by
  rw [show W26 m ρ c main_v184 = takeA (W25 m ρ c main_v150) (W25 m ρ c main_v183) from line_v184 (W25 m ρ c),
    at_v183, W25_of m ρ c main_v150 (by decide +kernel), W24_of m ρ c main_v150 (by decide +kernel), W23_of m ρ c main_v150 (by decide +kernel), at22_v150]

theorem at_v188 : W28 m ρ c main_v188 = nextA (nextA (nextA (scoA m c))) := by
  rw [show W28 m ρ c main_v188 = maskA (W26 m ρ c main_v183) (W26 m ρ c main_v176) from
    line_v188 (W26 m ρ c) (by rw [W26_of m ρ c main_v152 (by decide +kernel), W25_of m ρ c main_v152 (by decide +kernel), W24_of m ρ c main_v152 (by decide +kernel), W23_of m ρ c main_v152 (by decide +kernel), at22_v152]),
    W26_of m ρ c main_v183 (by decide +kernel), at_v183, W26_of m ρ c main_v176 (by decide +kernel), W25_of m ρ c main_v176 (by decide +kernel), W24_of m ρ c main_v176 (by decide +kernel), W23_of m ρ c main_v176 (by decide +kernel), at_v176]
  rfl

theorem at_v190 : W29 m ρ c main_v190 = maxA (nextA (nextA (nextA (scoA m c)))) := (line_v190 (W28 m ρ c)).trans (congrArg maxA (at_v188 m ρ c))
theorem at_v193 : W29 m ρ c main_v193 = firstA (nextA (nextA (nextA (scoA m c)))) := (line_v193 (W28 m ρ c)).trans (congrArg firstA (at_v188 m ρ c))

theorem at28_v150 : W28 m ρ c main_v150 = dstA m c := (keep2 m ρ c main_v150 (by decide +kernel)).trans (at22_v150 m ρ c)
theorem at28_v152 : W28 m ρ c main_v152 = posA := (keep2 m ρ c main_v152 (by decide +kernel)).trans (at22_v152 m ρ c)

theorem at_v195 : W31 m ρ c main_v195 = argA (nextA (nextA (nextA (scoA m c)))) := by
  rw [show W31 m ρ c main_v195 = colI (W30 m ρ c main_v194) from line_v195 (W30 m ρ c),
    show W30 m ρ c main_v194 = argmaxA (W29 m ρ c main_v193) from line_v194 (W29 m ρ c), at_v193]
  rfl

theorem at_v196 : W32 m ρ c main_v196 = takeA (dstA m c) (argA (nextA (nextA (nextA (scoA m c))))) := by
  rw [show W32 m ρ c main_v196 = takeA (W31 m ρ c main_v150) (W31 m ρ c main_v195) from line_v196 (W31 m ρ c),
    at_v195, W31_of m ρ c main_v150 (by decide +kernel), W30_of m ρ c main_v150 (by decide +kernel), W29_of m ρ c main_v150 (by decide +kernel), at28_v150]

theorem end_v154 : W34 m ρ c main_v154 = maxA (scoA m c) := by
  rw [keep3 m ρ c main_v154 (by decide +kernel), keep2 m ρ c main_v154 (by decide +kernel), keep1 m ρ c main_v154 (by decide +kernel), W16_of m ρ c main_v154 (by decide +kernel), W15_of m ρ c main_v154 (by decide +kernel), W14_of m ρ c main_v154 (by decide +kernel), W13_of m ρ c main_v154 (by decide +kernel), W12_of m ρ c main_v154 (by decide +kernel), at_v154]
theorem end_v160 : W34 m ρ c main_v160 = takeA (dstA m c) (argA (scoA m c)) := by
  rw [keep3 m ρ c main_v160 (by decide +kernel), keep2 m ρ c main_v160 (by decide +kernel), keep1 m ρ c main_v160 (by decide +kernel), W16_of m ρ c main_v160 (by decide +kernel), W15_of m ρ c main_v160 (by decide +kernel), at_v160]

theorem end_v166 : W34 m ρ c main_v166 = maxA (nextA (scoA m c)) := by
  rw [keep3 m ρ c main_v166 (by decide +kernel), keep2 m ρ c main_v166 (by decide +kernel), W22_of m ρ c main_v166 (by decide +kernel), W21_of m ρ c main_v166 (by decide +kernel), W20_of m ρ c main_v166 (by decide +kernel), W19_of m ρ c main_v166 (by decide +kernel), W18_of m ρ c main_v166 (by decide +kernel), at_v166]
theorem end_v172 : W34 m ρ c main_v172 = takeA (dstA m c) (argA (nextA (scoA m c))) := by
  rw [keep3 m ρ c main_v172 (by decide +kernel), keep2 m ρ c main_v172 (by decide +kernel), W22_of m ρ c main_v172 (by decide +kernel), W21_of m ρ c main_v172 (by decide +kernel), at_v172]

theorem end_v178 : W34 m ρ c main_v178 = maxA (nextA (nextA (scoA m c))) := by
  rw [keep3 m ρ c main_v178 (by decide +kernel), W28_of m ρ c main_v178 (by decide +kernel), W27_of m ρ c main_v178 (by decide +kernel), W26_of m ρ c main_v178 (by decide +kernel), W25_of m ρ c main_v178 (by decide +kernel), W24_of m ρ c main_v178 (by decide +kernel), at_v178]
theorem end_v184 : W34 m ρ c main_v184 = takeA (dstA m c) (argA (nextA (nextA (scoA m c)))) := by
  rw [keep3 m ρ c main_v184 (by decide +kernel), W28_of m ρ c main_v184 (by decide +kernel), W27_of m ρ c main_v184 (by decide +kernel), at_v184]

theorem end_v190 : W34 m ρ c main_v190 = maxA (nextA (nextA (nextA (scoA m c)))) := by
  rw [W34_of m ρ c main_v190 (by decide +kernel), W33_of m ρ c main_v190 (by decide +kernel), W32_of m ρ c main_v190 (by decide +kernel), W31_of m ρ c main_v190 (by decide +kernel), W30_of m ρ c main_v190 (by decide +kernel), at_v190]
theorem end_v196 : W34 m ρ c main_v196 = takeA (dstA m c) (argA (nextA (nextA (nextA (scoA m c))))) := by
  rw [W34_of m ρ c main_v196 (by decide +kernel), W33_of m ρ c main_v196 (by decide +kernel), at_v196]

/-- The four weights and the four targets of every node, where the edge arrays are built. -/
theorem end_cat : cat4F (W34 m ρ c main_v154) (W34 m ρ c main_v166) (W34 m ρ c main_v178) (W34 m ρ c main_v190) = topWA (scoA m c)
    ∧ cat4I (W34 m ρ c main_v160) (W34 m ρ c main_v172) (W34 m ρ c main_v184) (W34 m ρ c main_v196) = topDA (dstA m c) (scoA m c) := by
  rw [end_v154, end_v166, end_v178, end_v190, end_v160, end_v172, end_v184, end_v196]
  exact ⟨rfl, rfl⟩

/-- What the first kernel leaves is there when the edge arrays are built. -/
theorem keepAll (r : Ref sig .tc) (h : decide (r ∈ [main_v51_3, main_v51_4, main_v51_5]) = true) :
    W34 m ρ c (Proc.devRef .tc r) = W4 m ρ c (Proc.devRef .tc r) := by
  have hr : r = main_v51_3 ∨ r = main_v51_4 ∨ r = main_v51_5 := by
    have := of_decide_eq_true h
    simpa only [List.mem_cons, List.not_mem_nil, or_false] using this
  rcases hr with rfl | rfl | rfl <;>
    rw [keep3 m ρ c _ (by decide +kernel), keep2 m ρ c _ (by decide +kernel), keep1 m ρ c _ (by decide +kernel),
      keep0 m ρ c _ (by decide +kernel), keepS m ρ c _ (by decide +kernel)]

end Cert.Gnn

end
-- ==== Proof.Regions.lean ====
/- What each of the kernels behind the prelude leaves in its result arrays, as a function of the arrays it is given: the
   edge logits, the normalised exponentials and the messages, the denominators and the node outputs, and the edge weights
   after both normalisations. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn

open Cert.KernelIdeal Cert.KernelIdeal.Gen Idealize.ShloMosaic Idealize.ShloMosaic.TcCoe Idealize.ShloMosaic.Pointwise
open Idealize.ShloMosaic.Pipeline (Dat)

/-- One where two words agree, else zero. -/
def hot (a b : BitVec 32) : EReal := if a = b then 1 else 0

theorem sitofp_hot (a b : BitVec 32) :
    (FloatOps.sitofp FTy.f32 (BitVec.setWidth 32 (IntOp.cmpi CmpIPredicate.eq a b)) : Ideal .f32) = hot a b := by
  unfold hot
  by_cases h : a = b
  · simp [IntOp.cmpi, FloatOps.sitofp, h]
  · simp [IntOp.cmpi, FloatOps.sitofp, h, beq_eq_false_iff_ne.mpr h]

/-- The leaky rectifier with slope 0.2 (the f32 nearest it). -/
def leaky (x : EReal) : EReal := if 0 ≤ x then x else Ideal.ofBits .f32 1045220557#32 * x

/-- The edge logits: an edge's source share plus its target's share, picked by a row of zeros and a one. -/
def logK (edst : IVec S16384x1 32) (asx : FVec Ideal S16384x4 .f32) (ad : FVec Ideal S4096x4 .f32) : FVec Ideal S16384x4 .f32 :=
  fun j => leaky (asx j + ∑ n : Fin 4096, hot (BitVec.ofNat 32 n) (edst (ix2 (j 0) 0)) * ad (ix2 n (j 1)))

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![0, 0]
    ∧ win1_3.index t = ![t.val, 0] := (by decide +kernel : ∀ t : Fin grid1.N, _)

theorem final1_3 (c : Dev nD) : (dat1 V c).arrAt 3 cfg1.N = logK (V c main_v207) (V c main_v204) (V c main_v51_5) := by
  refine (dat1 V c).arrAt_eq_of_covers 3 _ (by decide +kernel) fun t _ y => ?_
  blk_simp
  rw [after1_3]; frame_out
  idx_vars y
  pointwise [k1_pay1, logK, leaky]
  simp only [sitofp_hot]
  blk_point [iblk1, idx1 t]

/-- The exponentials of the logits, the largest of all logits subtracted. -/
def exK (lg : FVec Ideal S16384x4 .f32) : FVec Ideal S16384x4 .f32 :=
  fun j => Ideal.exp (lg j - Finset.fold max (Ideal.ofBits .f32 4286578688#32) (fun x : Fin 16384 × Fin 4 => lg (ix2 x.1 x.2)) Finset.univ)

/-- The weighted messages before normalisation: each head's exponential spread over its eight columns. -/
def msgK (lg : FVec Ideal S16384x4 .f32) (w : FVec Ideal S16384x1 .f32) (xwx : FVec Ideal S16384x32 .f32) (e8 : FVec Ideal S4x32 .f32) :
    FVec Ideal S16384x32 .f32 :=
  fun j => (∑ x : Fin 4, exK lg (ix2 (j 0) x) * w (ix2 (j 0) 0) * e8 (ix2 x (j 1))) * xwx j

theorem idx2 : ∀ t : Fin cfg2.N, win2_0.index t = ![0, 0] ∧ win2_1.index t = ![0, 0] ∧ win2_2.index t = ![0, 0]
    ∧ win2_3.index t = ![0, 0] := (by decide +kernel : ∀ t : Fin grid2.N, _)

theorem final2_4 (c : Dev nD) : (dat2 V c).arrAt 4 cfg2.N = exK (V c main_v218) := by
  refine (dat2 V c).arrAt_eq_of_after_last 4 t2_0 (by decide +kernel) _ fun j => ?_
  blk_simp
  rw [after2_4]; frame_out
  idx_vars j
  pointwise [k2_pay1, exK]
  blk_point [iblk2, idx2 t2_0]

theorem final2_5 (c : Dev nD) : (dat2 V c).arrAt 5 cfg2.N = msgK (V c main_v218) (V c main_v209) (V c main_v206) (V c main_v217) := by
  refine (dat2 V c).arrAt_eq_of_after_last 5 t2_0 (by decide +kernel) _ fun j => ?_
  blk_simp
  rw [after2_5]; frame_out
  idx_vars j
  pointwise [k2_pay2, k2_pay1, msgK, exK]
  blk_point [iblk2, idx2 t2_0]

/-- The denominators: each node's sum of the exponentials of the kept edges that point at it. -/
def denK (er : IVec S1x16384 32) (ex : FVec Ideal S16384x4 .f32) : FVec Ideal S4096x4 .f32 :=
  fun j => ∑ e : Fin 16384, hot (BitVec.ofNat 32 (j 0).val) (er (ix2 0 e)) * ex (ix2 e (j 1))

/-- The node outputs: each node's sum of its messages over its denominator, plus the bias. -/
def outK (er : IVec S1x16384 32) (ex : FVec Ideal S16384x4 .f32) (msg : FVec Ideal S16384x32 .f32) (e8 : FVec Ideal S4x32 .f32)
    (b : FVec Ideal S1x32 .f32) : FVec Ideal S4096x32 .f32 :=
  fun j => Ideal.div (∑ e : Fin 16384, hot (BitVec.ofNat 32 (j 0).val) (er (ix2 0 e)) * msg (ix2 e (j 1)))
    (∑ x : Fin 4, denK er ex (ix2 (j 0) x) * e8 (ix2 x (j 1)) + Ideal.ofBits .f32 619091349#32) + b (ix2 0 (j 1))

theorem idx3 : ∀ t : Fin cfg3.N, win3_0.index t = ![0, 0] ∧ win3_1.index t = ![0, 0] ∧ win3_2.index t = ![0, 0]
    ∧ win3_3.index t = ![0, 0] ∧ win3_4.index t = ![0, 0] ∧ win3_5.index t = ![t.val, 0] ∧ win3_6.index t = ![t.val, 0]
    ∧ ((grid3.coords t) 0).val = t.val := (by decide +kernel : ∀ t : Fin grid3.N, _)

/-- A row's number within its block of 256 rows, moved to the block's place. -/
theorem row_word (a b : ℕ) :
    IntOp.addi (BitVec.ofNat 32 a) (Scalar.muli (BitVec.ofNat 32 b) 256#32) = BitVec.ofNat 32 (b * 256 + a) := by
  rw [Nat.add_comm]
  simp [IntOp.addi, Scalar.muli, IntOp.muli, BitVec.ofNat_add, BitVec.ofNat_mul]

theorem final3_5 (c : Dev nD) : (dat3 V c).arrAt 5 cfg3.N = denK (V c main_v208) (V c main_v219_0) := by
  refine (dat3 V c).arrAt_eq_of_covers 5 _ (by decide +kernel) fun t _ y => ?_
  blk_simp
  rw [after3_5]; frame_out
  idx_vars y
  pointwise [k3_pay2, k3_pay1, denK]
  simp only [sitofp_hot, row_word]
  blk_point [iblk3, idx3 t]

theorem final3_6 (c : Dev nD) : (dat3 V c).arrAt 6 cfg3.N
    = outK (V c main_v208) (V c main_v219_0) (V c main_v219_1) (V c main_v217) (V c main_v220) := by
  refine (dat3 V c).arrAt_eq_of_covers 6 _ (by decide +kernel) fun t _ y => ?_
  blk_simp
  rw [after3_6]; frame_out
  idx_vars y
  pointwise [k3_pay3, k3_pay2, k3_pay1, outK, denK]
  simp only [sitofp_hot, row_word]
  blk_point [iblk3, idx3 t]

end Cert.Gnn

end
-- ==== Proof.EdgeNorm.lean ====
/- What the last two kernels leave: the edge weights after both normalisations, and the dense array of the edge weights
   with one row for each node. -/
module

public import proofs.«01_k».proof.Proof.Regions

@[expose] public section

set_option maxRecDepth 16384

noncomputable section

namespace Cert.Gnn

open Cert.KernelIdeal Cert.KernelIdeal.Gen Idealize.ShloMosaic Idealize.ShloMosaic.TcCoe Idealize.ShloMosaic.Pointwise
open Idealize.ShloMosaic.Pipeline (Dat)

variable (V : (c : Dev nD) → (b : Ref sig .tc) → Buf (Elt Ideal) ((c : Thread nD τ).loc b))

/-- The words one and zero at the same place as `hot`'s one and zero. -/
theorem hot_ofNat (a b : ℕ) (ha : a < 2 ^ 32) (hb : b < 2 ^ 32) :
    hot (BitVec.ofNat 32 a) (BitVec.ofNat 32 b) = if a = b then 1 else 0 := by
  unfold hot
  congr 1
  refine propext ⟨fun h => ?_, fun h => by rw [h]⟩
  have e := congrArg BitVec.toNat h
  rwa [BitVec.toNat_ofNat, BitVec.toNat_ofNat, Nat.mod_eq_of_lt ha, Nat.mod_eq_of_lt hb] at e

/-- The quarter of a word, rounded down, as the kernel spells it: the truncating quotient, less one where the signs
    differ and the remainder is not zero. -/
def quarter (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 4#32 0#32)) (Scalar.extui (Scalar.cmpi .slt 4#32 0#32))))
      (IntOp.cmpi .ne (IntOp.remsi ArithUnit.vector x 4#32) 0#32))
    (IntOp.subi (IntOp.divsi ArithUnit.vector x 4#32) 1#32) (IntOp.divsi ArithUnit.vector x 4#32)

theorem quarter_eq (x : BitVec 32) :
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 4#32 0#32)) (Scalar.extui (Scalar.cmpi .slt 4#32 0#32))))
      (IntOp.cmpi .ne (IntOp.remsi ArithUnit.vector x 4#32) 0#32))
    (IntOp.subi (IntOp.divsi ArithUnit.vector x 4#32) 1#32) (IntOp.divsi ArithUnit.vector x 4#32)
    = quarter x := rfl

theorem quarter_ofNat (x : Fin 1024) : quarter (BitVec.ofNat 32 x.val) = BitVec.ofNat 32 (x.val / 4) := by
  revert x
  decide +kernel

/-- The edge weights after the softmax's normalisation, times the edge's score. -/
def alphaK (edst : IVec S16384x1 32) (ex : FVec Ideal S16384x4 .f32) (w : FVec Ideal S16384x1 .f32) (den : FVec Ideal S4096x4 .f32) :
    FVec Ideal S16384x4 .f32 :=
  fun j => Ideal.div (ex j) (∑ n : Fin 4096, hot (BitVec.ofNat 32 n) (edst (ix2 (j 0) 0)) * den (ix2 n (j 1)) + Ideal.ofBits .f32 619091349#32)
    * w (ix2 (j 0) 0)

/-- The sum over a block of a mask that keeps the four neighbours of one entry. -/
theorem sum_quarter (f : Fin 1024 → EReal) (a : Fin 1024) :
    ∑ x : Fin 1024, hot (quarter (BitVec.ofNat 32 a.val)) (quarter (BitVec.ofNat 32 x.val)) * f x
      = ∑ k : Fin 4, f ⟨4 * (a.val / 4) + k.val, by omega⟩ := by
  have h : ∀ x : Fin 1024, hot (quarter (BitVec.ofNat 32 a.val)) (quarter (BitVec.ofNat 32 x.val)) * f x
      = if a.val / 4 = x.val / 4 then f x else 0 := fun x => by
    rw [quarter_ofNat, quarter_ofNat, hot_ofNat _ _ (by omega) (by omega)]
    split <;> simp
  simp only [h]
  rw [← Finset.sum_filter]
  symm
  refine Finset.sum_bij (fun k _ => (⟨4 * (a.val / 4) + k.val, by omega⟩ : Fin 1024)) ?_ ?_ ?_ ?_
  · intro k _; simp only [Finset.mem_filter, Finset.mem_univ, true_and]; omega
  · intro k _ k' _ hk; ext; simpa using hk
  · intro x hx
    simp only [Finset.mem_filter, Finset.mem_univ, true_and] at hx
    exact ⟨⟨x.val % 4, by omega⟩, Finset.mem_univ _, by ext; simp only; omega⟩
  · intro k _; rfl

/-- The edge weights after both normalisations: each over the sum of its node's four. -/
def anormK (al : FVec Ideal S16384x4 .f32) : FVec Ideal S16384x4 .f32 :=
  fun j => Ideal.div (al j) (max (∑ k : Fin 4, al (ix2 (⟨4 * ((j 0).val / 4) + k.val, by have := (j 0).isLt; change _ < 16384 at this; omega⟩ : Fin 16384) (j 1)))
    (Ideal.ofBits .f32 814313567#32))

theorem idx4 : ∀ t : Fin cfg4.N, win4_0.index t = ![t.val, 0] ∧ win4_1.index t = ![t.val, 0] ∧ win4_2.index t = ![t.val, 0]
    ∧ win4_3.index t = ![0, 0] ∧ win4_4.index t = ![t.val, 0] := (by decide +kernel : ∀ t : Fin grid4.N, _)

theorem final4_4 (c : Dev nD) : (dat4 V c).arrAt 4 cfg4.N
    = anormK (alphaK (V c main_v207) (V c main_v219_0) (V c main_v209) (V c main_v221_0)) := by
  refine (dat4 V c).arrAt_eq_of_covers 4 _ (by decide +kernel) fun t _ y => ?_
  blk_simp
  rw [after4_4]; frame_out
  idx_vars y
  pointwise [k4_pay1, k4_pay2, k4_pay3, k4_pay4, k4_pay5, anormK, alphaK]
  simp only [sitofp_hot, quarter_eq, sum_quarter]
  blk_point [iblk4, idx4 t]

/-- The dense array: one row for each node and head, each of the node's four edges adding its weight at its target. -/
def denseK (ed : IVec S4096x4 32) (an : FVec Ideal S4096x16 .f32) : FVec Ideal S4x4096x4096 .f32 :=
  fun j => ((hot (BitVec.ofNat 32 (j 2).val) (ed (ix2 (j 1) 0)) * an (ix2 (j 1) (⟨(j 0).val, by have := (j 0).isLt; change _ < 4 at this; omega⟩ : Fin 16))
    + hot (BitVec.ofNat 32 (j 2).val) (ed (ix2 (j 1) 1)) * an (ix2 (j 1) (⟨4 + (j 0).val, by have := (j 0).isLt; change _ < 4 at this; omega⟩ : Fin 16)))
    + hot (BitVec.ofNat 32 (j 2).val) (ed (ix2 (j 1) 2)) * an (ix2 (j 1) (⟨8 + (j 0).val, by have := (j 0).isLt; change _ < 4 at this; omega⟩ : Fin 16)))
    + hot (BitVec.ofNat 32 (j 2).val) (ed (ix2 (j 1) 3)) * an (ix2 (j 1) (⟨12 + (j 0).val, by have := (j 0).isLt; change _ < 4 at this; omega⟩ : Fin 16))

theorem idx5 : ∀ t : Fin cfg5.N, win5_0.index t = ![t.val, 0] ∧ win5_1.index t = ![t.val, 0]
    ∧ win5_2.index t = ![0, t.val, 0] := (by decide +kernel : ∀ t : Fin grid5.N, _)

theorem point5 (c : Dev nD) (t : Fin cfg5.N) (y : S4x128x4096.Idx) (j : S4x4096x4096.Idx)
    (hj0 : (j 0 : ℕ) = y 0) (hj1 : (j 1 : ℕ) = t.val * 128 + y 1) (hj2 : (j 2 : ℕ) = y 2) :
    out5_2 (F := Ideal) (iblk5 V c 0 t) (iblk5 V c 1 t) y = denseK (V c main_v202) (V c main_v223) j := by
  canon_tiles x h
  all_goals
    open_payloads
    pointwise [denseK, k5_pay19, k5_pay20]
    simp only [sitofp_hot, hj2, h2]
    blk_point [iblk5, idx5 t]

theorem final5_2 (c : Dev nD) : (dat5 V c).arrAt 2 cfg5.N = denseK (V c main_v202) (V c main_v223) := by
  refine (dat5 V c).arrAt_eq_of_covers 2 _ (by decide +kernel) fun t _ y => ?_
  blk_simp
  rw [after5_2]
  refine point5 V c t y _ ?_ ?_ ?_
  all_goals (blk_simp [idx5 t] <;> try omega)

end Cert.Gnn

end
-- ==== Proof.Extended.lean ====
/- Facts on the extended reals: squares, quotients by positive numbers, reciprocal square roots, and sums. -/
module

public import Idealize.ShloMosaic.PureOps.Ideal
public import Idealize.ShloMosaic.Lib.Pointwise

@[expose] public section

noncomputable section

namespace Cert.Gnn

open Idealize.ShloMosaic

/-- A square is not negative. -/
theorem sq_nonneg' (x : EReal) : 0 ≤ x * x := by
  rcases le_total 0 x with h | h
  · exact EReal.mul_nonneg_iff.mpr (Or.inl ⟨h, h⟩)
  · exact EReal.mul_nonneg_iff.mpr (Or.inr ⟨h, h⟩)

/-- The exponential is not negative. -/
theorem exp_nonneg' (x : EReal) : 0 ≤ Ideal.exp x := by
  induction x with
  | bot => exact le_refl _
  | top => exact le_top
  | coe r => exact EReal.coe_nonneg.mpr (Real.exp_pos r).le

theorem div_of_pos (x : EReal) {y : EReal} (h : 0 < y) : Ideal.div x y = x * y⁻¹ := by
  unfold Ideal.div; rw [if_neg h.ne']

theorem inv_ne_top' {y : EReal} (h : 0 < y) : y⁻¹ ≠ ⊤ := by
  induction y with
  | bot => exact absurd h (by simp)
  | top => simp
  | coe r => rw [← EReal.coe_inv]; exact EReal.coe_ne_top _

theorem inv_nonneg' {y : EReal} (h : 0 < y) : 0 ≤ y⁻¹ := EReal.inv_nonneg_of_nonneg h.le

/-- The reciprocal square root is the reciprocal of the square root, above zero. -/
theorem rsqrt_of_pos {y : EReal} (h : 0 < y) : Ideal.rsqrt y = (Ideal.sqrt y)⁻¹ ∧ 0 < Ideal.sqrt y := by
  induction y with
  | bot => exact absurd h (by simp)
  | top => exact ⟨by rw [Ideal.rsqrt_top, Ideal.sqrt_top, EReal.inv_top], by rw [Ideal.sqrt_top]; exact h⟩
  | coe r =>
    have hr : 0 < r := EReal.coe_pos.mp h
    have h1 : ¬ r < 0 := not_lt.mpr hr.le
    rw [Ideal.rsqrt_coe, Ideal.sqrt_coe, if_neg h1, if_neg h1, if_neg hr.ne']
    exact ⟨EReal.coe_inv _, EReal.coe_pos.mpr (Real.sqrt_pos.mpr hr)⟩

/-- A number times a reciprocal square root is its quotient by the square root. -/
theorem mul_rsqrt (x : EReal) {y : EReal} (h : 0 < y) : x * Ideal.rsqrt y = Ideal.div x (Ideal.sqrt y) := by
  rw [div_of_pos x (rsqrt_of_pos h).2, (rsqrt_of_pos h).1]

/-- A finite sum times a number that is neither negative nor infinite. -/
theorem sum_mul' {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A finite sum over a positive number. -/
theorem sum_div' {ι : Type*} (s : Finset ι) (f : ι → EReal) {y : EReal} (h : 0 < y) :
    Ideal.div (∑ i ∈ s, f i) y = ∑ i ∈ s, Ideal.div (f i) y := by
  rw [div_of_pos _ h, sum_mul' s f (inv_nonneg' h) (inv_ne_top' h)]
  exact Finset.sum_congr rfl fun i _ => (div_of_pos _ h).symm

/-- A finite sum of numbers that are not negative is not negative. -/
theorem sum_nonneg' {ι : Type*} (s : Finset ι) (f : ι → EReal) (h : ∀ i ∈ s, 0 ≤ f i) : 0 ≤ ∑ i ∈ s, f i :=
  Finset.sum_nonneg h

/-- The small constants of the program are positive. -/
theorem eps_ln_pos : 0 < Ideal.ofBits .f32 0x3727C5AC#32 := by
  simp [Ideal.ofBits, Ideal.ieee]
  rw [← EReal.coe_mul]
  exact EReal.coe_pos.mpr (by positivity)

theorem eps_den_pos : 0 < Ideal.ofBits .f32 619091349#32 := by
  simp [Ideal.ofBits, Ideal.ieee]
  rw [← EReal.coe_mul]
  exact EReal.coe_pos.mpr (by positivity)

theorem eps_row_pos : 0 < Ideal.ofBits .f32 814313567#32 := by
  simp [Ideal.ofBits, Ideal.ieee]
  rw [← EReal.coe_mul]
  exact EReal.coe_pos.mpr (by positivity)

theorem width_pos : 0 < Ideal.ofBits .f32 0x42000000#32 := by
  simp [Ideal.ofBits, Ideal.ieee]
  rw [← EReal.coe_mul]
  exact EReal.coe_pos.mpr (by positivity)

theorem negInf_eq : Ideal.ofBits .f32 4286578688#32 = (⊥ : EReal) := by
  simp [Ideal.ofBits, Ideal.ieee]

end Cert.Gnn

end
-- ==== Proof.Gat.lean ====
/- The attention step over the kept edges, in numbers: as the reference sums it and as the kernels do, and that the two agree. -/
module

public import proofs.«01_k».proof.Proof.EdgeNorm
public import proofs.«01_k».proof.Proof.Extended

@[expose] public section

set_option maxRecDepth 16384

noncomputable section

namespace Cert.Gnn

open Cert.KernelIdeal Cert.KernelIdeal.Gen Idealize.ShloMosaic Idealize.ShloMosaic.TcCoe Idealize.ShloMosaic.Pointwise

/-- The node an edge leaves: four kept edges to a node. -/
def quart (e : Fin 16384) : Fin 4096 := ⟨e.val / 4, by omega⟩

/-- The `k`-th kept edge of a node. -/
def edgeOf (n : Fin 4096) (k : Fin 4) : Fin 16384 := ⟨4 * n.val + k.val, by omega⟩

/-- The head a feature belongs to. -/
def headOf (j : Fin 32) : Fin 4 := ⟨j.val / 8, by omega⟩

theorem quart_edgeOf (n : Fin 4096) (k : Fin 4) : quart (edgeOf n k) = n := by
  unfold quart edgeOf
  exact Fin.ext (by show (4 * n.val + k.val) / 4 = n.val; omega)

/-- A sum over the edges that leave a node is a sum over its four. -/
theorem sum_quart (n : Fin 4096) (f : Fin 16384 → EReal) :
    ∑ e ∈ Finset.univ.filter (fun e => quart e = n), f e = ∑ k : Fin 4, f (edgeOf n k) := by
  symm
  refine Finset.sum_bij (fun k _ => edgeOf n k) ?_ ?_ ?_ ?_
  · intro k _
    exact Finset.mem_filter.2 ⟨Finset.mem_univ _, quart_edgeOf n k⟩
  · intro a _ b _ h
    have := congrArg Fin.val h
    exact Fin.ext (by simp only [edgeOf] at this; omega)
  · intro e he
    have he' := congrArg Fin.val (Finset.mem_filter.1 he).2
    refine ⟨⟨e.val % 4, by omega⟩, Finset.mem_univ _, Fin.ext ?_⟩
    simp only [quart] at he'
    simp only [edgeOf]
    omega
  · intro k _; rfl

variable (D : Fin 16384 → Fin 4096) (w : Fin 16384 → EReal) (sa ta : Fin 4096 → Fin 4 → EReal)
  (xw : Fin 4096 → Fin 32 → EReal) (b : Fin 32 → EReal)

/-- An edge's logit. -/
def lgS (e : Fin 16384) (h : Fin 4) : EReal := leaky (sa (quart e) h + ta (D e) h)

/-- The logits' exponentials, shifted by the greatest logit. -/
def exS (e : Fin 16384) (h : Fin 4) : EReal :=
  Ideal.exp (lgS D sa ta e h - Finset.fold max (Ideal.ofBits .f32 4286578688#32) (fun x : Fin 16384 × Fin 4 => lgS D sa ta x.1 x.2) Finset.univ)

/-- A node's denominator. -/
def denS (n : Fin 4096) (h : Fin 4) : EReal := ∑ e ∈ Finset.univ.filter (fun e => D e = n), exS D sa ta e h

/-- An edge's normalised weight. -/
def alS (e : Fin 16384) (h : Fin 4) : EReal :=
  Ideal.div (exS D sa ta e h) (denS D sa ta (D e) h + Ideal.ofBits .f32 619091349#32) * w e

/-- The reference's features: weights first, then the sum. -/
def outR (n : Fin 4096) (j : Fin 32) : EReal :=
  ∑ e ∈ Finset.univ.filter (fun e => D e = n), alS D w sa ta e (headOf j) * xw (quart e) j + b j

/-- The reference's attention before its rows are normalised. -/
def attR (h : Fin 4) (n d : Fin 4096) : EReal :=
  ∑ e ∈ Finset.univ.filter (fun e => quart e = n ∧ D e = d), alS D w sa ta e h

/-- The reference's attention. -/
def attN (h : Fin 4) (n d : Fin 4096) : EReal :=
  Ideal.div (attR D w sa ta h n d) (max (Ideal.ofBits .f32 814313567#32) (∑ d' : Fin 4096, attR D w sa ta h n d'))

theorem den_pos (n : Fin 4096) (h : Fin 4) : 0 < denS D sa ta n h + Ideal.ofBits .f32 619091349#32 := by
  have h0 : 0 ≤ denS D sa ta n h := sum_nonneg' _ _ fun e _ => exp_nonneg' _
  calc (0 : EReal) < Ideal.ofBits .f32 619091349#32 := eps_den_pos
    _ = 0 + Ideal.ofBits .f32 619091349#32 := (zero_add _).symm
    _ ≤ _ := add_le_add_left h0 _

/-- The features, summed before the division. -/
theorem outR_eq (n : Fin 4096) (j : Fin 32) : outR D w sa ta xw b n j
    = Ideal.div (∑ e ∈ Finset.univ.filter (fun e => D e = n), exS D sa ta e (headOf j) * w e * xw (quart e) j)
        (denS D sa ta n (headOf j) + Ideal.ofBits .f32 619091349#32) + b j := by
  unfold outR
  rw [sum_div' _ _ (den_pos D sa ta n (headOf j))]
  refine congrArg (· + b j) (Finset.sum_congr rfl fun e he => ?_)
  have hn : D e = n := (Finset.mem_filter.1 he).2
  unfold alS
  rw [hn, div_of_pos _ (den_pos D sa ta n (headOf j)), div_of_pos _ (den_pos D sa ta n (headOf j))]
  rw [mul_right_comm (exS D sa ta e (headOf j)) _ (w e), mul_right_comm]

/-- An entry of the attention is a masked sum over the node's four edges. -/
theorem attR_eq (h : Fin 4) (n d : Fin 4096) : attR D w sa ta h n d
    = ∑ k : Fin 4, if d = D (edgeOf n k) then alS D w sa ta (edgeOf n k) h else 0 := by
  unfold attR
  rw [← Finset.filter_filter, Finset.sum_filter, sum_quart]
  exact Finset.sum_congr rfl fun k _ => if_congr eq_comm rfl rfl

theorem attR_row (h : Fin 4) (n : Fin 4096) : ∑ d, attR D w sa ta h n d = ∑ k : Fin 4, alS D w sa ta (edgeOf n k) h := by
  simp only [attR_eq]
  rw [Finset.sum_comm]
  exact Finset.sum_congr rfl fun k _ => by rw [Finset.sum_ite_eq' Finset.univ (D (edgeOf n k)) fun _ => _]; simp

theorem attN_eq (h : Fin 4) (n d : Fin 4096) : attN D w sa ta h n d
    = ∑ k : Fin 4, if d = D (edgeOf n k) then
        Ideal.div (alS D w sa ta (edgeOf n k) h) (max (∑ k' : Fin 4, alS D w sa ta (edgeOf n k') h) (Ideal.ofBits .f32 814313567#32)) else 0 := by
  unfold attN
  have hp : 0 < max (∑ k' : Fin 4, alS D w sa ta (edgeOf n k') h) (Ideal.ofBits .f32 814313567#32) :=
    lt_of_lt_of_le eps_row_pos (le_max_right _ _)
  rw [attR_row, max_comm, attR_eq, sum_div' _ _ hp]
  refine Finset.sum_congr rfl fun k _ => ?_
  split
  · rfl
  · rw [div_of_pos _ hp, zero_mul]

/-! ## The kernels' arrays -/

section Kernels

variable (edst : IVec S16384x1 32) (er : IVec S1x16384 32) (asx : FVec Ideal S16384x4 .f32) (adA : FVec Ideal S4096x4 .f32)
  (wA : FVec Ideal S16384x1 .f32) (xwx : FVec Ideal S16384x32 .f32) (e8 : FVec Ideal S4x32 .f32) (bA : FVec Ideal S1x32 .f32)
  (ed : IVec S4096x4 32)

theorem hot_node (n m : Fin 4096) : hot (BitVec.ofNat 32 n.val) (BitVec.ofNat 32 m.val) = if n = m then 1 else 0 := by
  rw [hot_ofNat _ _ (by omega) (by omega)]
  exact if_congr Fin.ext_iff.symm rfl rfl

theorem sum_hot (m : Fin 4096) (f : Fin 4096 → EReal) :
    ∑ n : Fin 4096, hot (BitVec.ofNat 32 n.val) (BitVec.ofNat 32 m.val) * f n = f m := by
  simp only [hot_node, ite_mul, one_mul, zero_mul]
  simp

theorem logK_at (hd : ∀ e, edst (ix2 e 0) = BitVec.ofNat 32 (D e).val) (has : ∀ e h, asx (ix2 e h) = sa (quart e) h)
    (had : ∀ n h, adA (ix2 n h) = ta n h) (e : Fin 16384) (h : Fin 4) : logK edst asx adA (ix2 e h) = lgS D sa ta e h := by
  show leaky (asx (ix2 e h) + ∑ n : Fin 4096, hot (BitVec.ofNat 32 n) (edst (ix2 e 0)) * adA (ix2 n h)) = _
  simp only [hd, has, had]
  rw [sum_hot (D e) fun n => ta n h]
  rfl

theorem exK_at (lg : FVec Ideal S16384x4 .f32) (hl : ∀ e h, lg (ix2 e h) = lgS D sa ta e h) (e : Fin 16384) (h : Fin 4) :
    exK lg (ix2 e h) = exS D sa ta e h := by
  show Ideal.exp (lg (ix2 e h) - Finset.fold max _ (fun x : Fin 16384 × Fin 4 => lg (ix2 x.1 x.2)) Finset.univ) = _
  simp only [hl]
  rfl

theorem denK_at (ex : FVec Ideal S16384x4 .f32) (hx : ∀ e h, ex (ix2 e h) = exS D sa ta e h)
    (hr : ∀ e, er (ix2 0 e) = BitVec.ofNat 32 (D e).val) (n : Fin 4096) (h : Fin 4) : denK er ex (ix2 n h) = denS D sa ta n h := by
  show ∑ e : Fin 16384, hot (BitVec.ofNat 32 n.val) (er (ix2 0 e)) * ex (ix2 e h) = _
  simp only [hr, hx, hot_node, ite_mul, one_mul, zero_mul]
  unfold denS
  rw [Finset.sum_filter]
  exact Finset.sum_congr rfl fun e _ => if_congr eq_comm rfl rfl

theorem sum_head (he : ∀ x j, e8 (ix2 x j) = if headOf j = x then 1 else 0) (f : Fin 4 → EReal) (j : Fin 32) :
    ∑ x : Fin 4, f x * e8 (ix2 x j) = f (headOf j) := by
  simp only [he, mul_ite, mul_one, mul_zero]
  simp

theorem outK_at (lg : FVec Ideal S16384x4 .f32) (hl : ∀ e h, lg (ix2 e h) = lgS D sa ta e h)
    (hr : ∀ e, er (ix2 0 e) = BitVec.ofNat 32 (D e).val) (hw : ∀ e, wA (ix2 e 0) = w e)
    (hx : ∀ e j, xwx (ix2 e j) = xw (quart e) j) (he : ∀ x j, e8 (ix2 x j) = if headOf j = x then 1 else 0)
    (hb : ∀ j, bA (ix2 0 j) = b j) (n : Fin 4096) (j : Fin 32) :
    outK er (exK lg) (msgK lg wA xwx e8) e8 bA (ix2 n j) = outR D w sa ta xw b n j := by
  rw [outR_eq]
  have hex := exK_at D sa ta lg hl
  have hm : ∀ e, msgK lg wA xwx e8 (ix2 e j) = exS D sa ta e (headOf j) * w e * xw (quart e) j := fun e => by
    show (∑ x : Fin 4, exK lg (ix2 e x) * wA (ix2 e 0) * e8 (ix2 x j)) * xwx (ix2 e j) = _
    rw [sum_head e8 he (fun x => exK lg (ix2 e x) * wA (ix2 e 0)) j, hex, hw, hx]
  show Ideal.div (∑ e : Fin 16384, hot (BitVec.ofNat 32 n.val) (er (ix2 0 e)) * msgK lg wA xwx e8 (ix2 e j))
    (∑ x : Fin 4, denK er (exK lg) (ix2 n x) * e8 (ix2 x j) + Ideal.ofBits .f32 619091349#32) + bA (ix2 0 j) = _
  rw [sum_head e8 he (fun x => denK er (exK lg) (ix2 n x)) j, denK_at D sa ta er _ hex hr, hb, Finset.sum_filter]
  simp only [hr, hm, hot_node, ite_mul, one_mul, zero_mul]
  refine congrArg (fun s => Ideal.div s (denS D sa ta n (headOf j) + Ideal.ofBits .f32 619091349#32) + b j)
    (Finset.sum_congr rfl fun e _ => if_congr eq_comm rfl rfl)

theorem alphaK_at (ex : FVec Ideal S16384x4 .f32) (den : FVec Ideal S4096x4 .f32) (hx : ∀ e h, ex (ix2 e h) = exS D sa ta e h)
    (hn : ∀ n h, den (ix2 n h) = denS D sa ta n h) (hd : ∀ e, edst (ix2 e 0) = BitVec.ofNat 32 (D e).val)
    (hw : ∀ e, wA (ix2 e 0) = w e) (e : Fin 16384) (h : Fin 4) : alphaK edst ex wA den (ix2 e h) = alS D w sa ta e h := by
  show Ideal.div (ex (ix2 e h)) (∑ n : Fin 4096, hot (BitVec.ofNat 32 n) (edst (ix2 e 0)) * den (ix2 n h) + Ideal.ofBits .f32 619091349#32)
    * wA (ix2 e 0) = _
  simp only [hd, hx, hn, hw]
  rw [sum_hot (D e) fun n => denS D sa ta n h]
  rfl

theorem anormK_at (al : FVec Ideal S16384x4 .f32) (ha : ∀ e h, al (ix2 e h) = alS D w sa ta e h) (n : Fin 4096) (k h : Fin 4) :
    anormK al (ix2 (edgeOf n k) h)
      = Ideal.div (alS D w sa ta (edgeOf n k) h) (max (∑ k' : Fin 4, alS D w sa ta (edgeOf n k') h) (Ideal.ofBits .f32 814313567#32)) := by
  have he : ∀ (k' : Fin 4) (p : 4 * ((edgeOf n k).val / 4) + k'.val < 16384), (⟨4 * ((edgeOf n k).val / 4) + k'.val, p⟩ : Fin 16384) = edgeOf n k' :=
    fun k' p => Fin.ext (by simp only [edgeOf]; omega)
  show Ideal.div (al (ix2 (edgeOf n k) h)) (max (∑ k' : Fin 4, al (ix2 (⟨4 * ((edgeOf n k).val / 4) + k'.val, _⟩ : Fin 16384) h)) _) = _
  rw [ha]
  refine congrArg (fun s => Ideal.div (alS D w sa ta (edgeOf n k) h) (max s (Ideal.ofBits .f32 814313567#32)))
    (Finset.sum_congr rfl fun k' _ => ?_)
  exact (congrArg (fun e => al (ix2 e h)) (he k' _)).trans (ha _ _)

theorem denseK_at (an : FVec Ideal S4096x16 .f32) (f : Fin 16384 → Fin 4 → EReal)
    (hf : ∀ (n : Fin 4096) (k h : Fin 4) (i : Fin 16), i.val = 4 * k.val + h.val → an (ix2 n i) = f (edgeOf n k) h)
    (hd : ∀ n k, ed (ix2 n k) = BitVec.ofNat 32 (D (edgeOf n k)).val) (h : Fin 4) (n d : Fin 4096) :
    denseK ed an (ix3 h n d) = ∑ k : Fin 4, if d = D (edgeOf n k) then f (edgeOf n k) h else 0 := by
  have ht : ∀ (k : Fin 4) (i : Fin 16), i.val = 4 * k.val + h.val →
      hot (BitVec.ofNat 32 d.val) (ed (ix2 n k)) * an (ix2 n i) = if d = D (edgeOf n k) then f (edgeOf n k) h else 0 := fun k i hi => by
    rw [hd, hf n k h i hi, hot_node, ite_mul, one_mul, zero_mul]
  rw [Fin.sum_univ_four]
  refine congrArg₂ _ (congrArg₂ _ (congrArg₂ _ ?_ ?_) ?_) ?_
  · exact ht 0 _ (by simp)
  · exact ht 1 _ (by simp)
  · exact ht 2 _ (by simp)
  · exact ht 3 _ (by simp)

end Kernels

end Cert.Gnn

end
-- ==== Proof.Scatters.lean ====
/- Where the reference program's scattered additions land. -/
module

public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.Gnn

open Cert.ReferenceIdeal Idealize.ShloMosaic Idealize.ShloMosaic.TcCoe Idealize.ShloMosaic.Pointwise

theorem toInt_node (b : Fin 4096) : (BitVec.ofNat 32 b.val).toInt = (b.val : ℤ) := by
  have := b.isLt
  rw [BitVec.toInt_eq_toNat_of_lt (by simp only [BitVec.toNat_ofNat]; omega)]
  simp only [BitVec.toNat_ofNat]
  omega

/-- A scattered addition at an index: what was there and every update landing there. -/
theorem scatterAdd_at {s si su : Shape} (d : ScatterDims s si su) {w : ℕ} (x : FVec Ideal s .f32) (idx : IVec si w)
    (u : FVec Ideal su .f32) (i : s.Idx) :
    Host.scatterAdd d x idx u i = x i + ∑ j, if d.resultIdx? j idx = some i then u j else 0 := by
  rw [← Finset.sum_filter]; rfl

/-- An update row of the edges' quadruples lands at its index word's row. -/
theorem lands4 (idx : IVec S16384x1 32) (e : Fin 16384) (h h' : Fin 4) (b n : Fin 4096)
    (hb : idx (ix2 e 0) = BitVec.ofNat 32 b.val) :
    scatter_S4096x4_S16384x1_S16384x4_1_0_0_1.resultIdx? (ix2 e h) idx = some (ix2 n h') ↔ b = n ∧ h = h' := by
  rw [Routing.resultIdx?_eq_some]
  have s0 : scatter_S4096x4_S16384x1_S16384x4_1_0_0_1.start (ix2 e h) idx 0 = (b.val : ℤ) := by
    unfold ScatterDims.start
    rw [dif_pos (show (0 : Fin 2) ∈ scatter_S4096x4_S16384x1_S16384x4_1_0_0_1.scatterDimsToOperandDims from List.mem_singleton.mpr rfl),
      ← toInt_node, ← hb]
    congr 2
    funext a
    refine Fin.ext ?_
    match a with
    | ⟨0, _⟩ => rfl
    | ⟨1, _⟩ => rfl
  have s1 : scatter_S4096x4_S16384x1_S16384x4_1_0_0_1.start (ix2 e h) idx 1 = 0 := by
    unfold ScatterDims.start
    rw [dif_neg (show (1 : Fin 2) ∉ scatter_S4096x4_S16384x1_S16384x4_1_0_0_1.scatterDimsToOperandDims from by decide)]
  have w0 : scatter_S4096x4_S16384x1_S16384x4_1_0_0_1.window (ix2 e h) 0 = 0 := rfl
  have w1 : scatter_S4096x4_S16384x1_S16384x4_1_0_0_1.window (ix2 e h) 1 = h.val := rfl
  constructor
  · intro q
    have q0 := q 0
    have q1 := q 1
    rw [s0, w0] at q0
    rw [s1, w1] at q1
    have q0' : (b.val : ℤ) + ((0 : ℕ) : ℤ) = n.val := q0
    have q1' : (0 : ℤ) + (h.val : ℤ) = h'.val := q1
    exact ⟨Fin.ext (by omega), Fin.ext (by omega)⟩
  · rintro ⟨rfl, rfl⟩ a
    match a with
    | ⟨0, _⟩ =>
      show scatter_S4096x4_S16384x1_S16384x4_1_0_0_1.start (ix2 e h) idx 0 + (scatter_S4096x4_S16384x1_S16384x4_1_0_0_1.window (ix2 e h) 0 : ℤ) = (b.val : ℤ)
      rw [s0, w0]; simp
    | ⟨1, _⟩ =>
      show scatter_S4096x4_S16384x1_S16384x4_1_0_0_1.start (ix2 e h) idx 1 + (scatter_S4096x4_S16384x1_S16384x4_1_0_0_1.window (ix2 e h) 1 : ℤ) = (h.val : ℤ)
      rw [s1, w1]; simp

/-- The quadruples added into their nodes' rows. -/
theorem scatter4_at (x : FVec Ideal S4096x4 .f32) (idx : IVec S16384x1 32) (u : FVec Ideal S16384x4 .f32) (D : Fin 16384 → Fin 4096)
    (hD : ∀ e, idx (ix2 e 0) = BitVec.ofNat 32 (D e).val) (n : Fin 4096) (h : Fin 4) :
    Host.scatterAdd scatter_S4096x4_S16384x1_S16384x4_1_0_0_1 x idx u (ix2 n h)
      = x (ix2 n h) + ∑ e ∈ Finset.univ.filter (fun e => D e = n), u (ix2 e h) := by
  rw [scatterAdd_at, Finset.sum_filter, sum_idx2]
  refine congrArg _ (Finset.sum_congr rfl fun e _ => ?_)
  simp only [lands4 idx e _ h (D e) n (hD e), ite_and]
  by_cases q : D e = n
  · simp [q]
  · simp [q]

/-- An update row of the edges' message rows lands at its index word's row. -/
theorem lands48 (idx : IVec S16384x1 32) (e : Fin 16384) (h h' : Fin 4) (c c' : Fin 8) (b n : Fin 4096)
    (hb : idx (ix2 e 0) = BitVec.ofNat 32 b.val) :
    scatter_S4096x4x8_S16384x1_S16384x4x8_12_0_0_1.resultIdx? (ix3 e h c) idx = some (ix3 n h' c') ↔ b = n ∧ h = h' ∧ c = c' := by
  rw [Routing.resultIdx?_eq_some]
  have s0 : scatter_S4096x4x8_S16384x1_S16384x4x8_12_0_0_1.start (ix3 e h c) idx 0 = (b.val : ℤ) := by
    unfold ScatterDims.start
    rw [dif_pos (show (0 : Fin 3) ∈ scatter_S4096x4x8_S16384x1_S16384x4x8_12_0_0_1.scatterDimsToOperandDims from List.mem_singleton.mpr rfl),
      ← toInt_node, ← hb]
    congr 2
    funext a
    refine Fin.ext ?_
    match a with
    | ⟨0, _⟩ => rfl
    | ⟨1, _⟩ => rfl
  have s1 : scatter_S4096x4x8_S16384x1_S16384x4x8_12_0_0_1.start (ix3 e h c) idx 1 = 0 := by
    unfold ScatterDims.start
    rw [dif_neg (show (1 : Fin 3) ∉ scatter_S4096x4x8_S16384x1_S16384x4x8_12_0_0_1.scatterDimsToOperandDims from by decide)]
  have s2 : scatter_S4096x4x8_S16384x1_S16384x4x8_12_0_0_1.start (ix3 e h c) idx 2 = 0 := by
    unfold ScatterDims.start
    rw [dif_neg (show (2 : Fin 3) ∉ scatter_S4096x4x8_S16384x1_S16384x4x8_12_0_0_1.scatterDimsToOperandDims from by decide)]
  have w0 : scatter_S4096x4x8_S16384x1_S16384x4x8_12_0_0_1.window (ix3 e h c) 0 = 0 := rfl
  have w1 : scatter_S4096x4x8_S16384x1_S16384x4x8_12_0_0_1.window (ix3 e h c) 1 = h.val := rfl
  have w2 : scatter_S4096x4x8_S16384x1_S16384x4x8_12_0_0_1.window (ix3 e h c) 2 = c.val := rfl
  constructor
  · intro q
    have q0 := q 0
    have q1 := q 1
    have q2 := q 2
    rw [s0, w0] at q0
    rw [s1, w1] at q1
    rw [s2, w2] at q2
    have q0' : (b.val : ℤ) + ((0 : ℕ) : ℤ) = n.val := q0
    have q1' : (0 : ℤ) + (h.val : ℤ) = h'.val := q1
    have q2' : (0 : ℤ) + (c.val : ℤ) = c'.val := q2
    exact ⟨Fin.ext (by omega), Fin.ext (by omega), Fin.ext (by omega)⟩
  · rintro ⟨rfl, rfl, rfl⟩ a
    match a with
    | ⟨0, _⟩ =>
      show scatter_S4096x4x8_S16384x1_S16384x4x8_12_0_0_1.start (ix3 e h c) idx 0
        + (scatter_S4096x4x8_S16384x1_S16384x4x8_12_0_0_1.window (ix3 e h c) 0 : ℤ) = (b.val : ℤ)
      rw [s0, w0]; simp
    | ⟨1, _⟩ =>
      show scatter_S4096x4x8_S16384x1_S16384x4x8_12_0_0_1.start (ix3 e h c) idx 1
        + (scatter_S4096x4x8_S16384x1_S16384x4x8_12_0_0_1.window (ix3 e h c) 1 : ℤ) = (h.val : ℤ)
      rw [s1, w1]; simp
    | ⟨2, _⟩ =>
      show scatter_S4096x4x8_S16384x1_S16384x4x8_12_0_0_1.start (ix3 e h c) idx 2
        + (scatter_S4096x4x8_S16384x1_S16384x4x8_12_0_0_1.window (ix3 e h c) 2 : ℤ) = (c.val : ℤ)
      rw [s2, w2]; simp

/-- The message rows added into their nodes' rows. -/
theorem scatter48_at (x : FVec Ideal S4096x4x8 .f32) (idx : IVec S16384x1 32) (u : FVec Ideal S16384x4x8 .f32) (D : Fin 16384 → Fin 4096)
    (hD : ∀ e, idx (ix2 e 0) = BitVec.ofNat 32 (D e).val) (n : Fin 4096) (h : Fin 4) (c : Fin 8) :
    Host.scatterAdd scatter_S4096x4x8_S16384x1_S16384x4x8_12_0_0_1 x idx u (ix3 n h c)
      = x (ix3 n h c) + ∑ e ∈ Finset.univ.filter (fun e => D e = n), u (ix3 e h c) := by
  rw [scatterAdd_at, Finset.sum_filter, sum_idx3]
  refine congrArg _ (Finset.sum_congr rfl fun e _ => ?_)
  simp only [lands48 idx e _ h _ c (D e) n (hD e), ite_and]
  by_cases q : D e = n
  · simp [q]
  · simp [q]

/-- An update of the attention matrix lands at its two index words. -/
theorem landsA (idx : IVec S16384x2 32) (e : Fin 16384) (h h' : Fin 4) (b b' n n' : Fin 4096)
    (hb : idx (ix2 e 0) = BitVec.ofNat 32 b.val) (hb' : idx (ix2 e 1) = BitVec.ofNat 32 b'.val) :
    scatter_S4x4096x4096_S16384x2_S4x16384_0_12_12_1.resultIdx? (ix2 h e) idx = some (ix3 h' n n') ↔ h = h' ∧ b = n ∧ b' = n' := by
  rw [Routing.resultIdx?_eq_some]
  have s0 : scatter_S4x4096x4096_S16384x2_S4x16384_0_12_12_1.start (ix2 h e) idx 0 = 0 := by
    unfold ScatterDims.start
    rw [dif_neg (show (0 : Fin 3) ∉ scatter_S4x4096x4096_S16384x2_S4x16384_0_12_12_1.scatterDimsToOperandDims from by decide)]
  have s1 : scatter_S4x4096x4096_S16384x2_S4x16384_0_12_12_1.start (ix2 h e) idx 1 = (b.val : ℤ) := by
    unfold ScatterDims.start
    rw [dif_pos (show (1 : Fin 3) ∈ scatter_S4x4096x4096_S16384x2_S4x16384_0_12_12_1.scatterDimsToOperandDims from by decide),
      ← toInt_node, ← hb]
    congr 2
    funext a
    refine Fin.ext ?_
    match a with
    | ⟨0, _⟩ => rfl
    | ⟨1, _⟩ => rfl
  have s2 : scatter_S4x4096x4096_S16384x2_S4x16384_0_12_12_1.start (ix2 h e) idx 2 = (b'.val : ℤ) := by
    unfold ScatterDims.start
    rw [dif_pos (show (2 : Fin 3) ∈ scatter_S4x4096x4096_S16384x2_S4x16384_0_12_12_1.scatterDimsToOperandDims from by decide),
      ← toInt_node, ← hb']
    congr 2
    funext a
    refine Fin.ext ?_
    match a with
    | ⟨0, _⟩ => rfl
    | ⟨1, _⟩ => rfl
  have w0 : scatter_S4x4096x4096_S16384x2_S4x16384_0_12_12_1.window (ix2 h e) 0 = h.val := rfl
  have w1 : scatter_S4x4096x4096_S16384x2_S4x16384_0_12_12_1.window (ix2 h e) 1 = 0 := rfl
  have w2 : scatter_S4x4096x4096_S16384x2_S4x16384_0_12_12_1.window (ix2 h e) 2 = 0 := rfl
  constructor
  · intro q
    have q0 := q 0
    have q1 := q 1
    have q2 := q 2
    rw [s0, w0] at q0
    rw [s1, w1] at q1
    rw [s2, w2] at q2
    have q0' : (0 : ℤ) + (h.val : ℤ) = h'.val := q0
    have q1' : (b.val : ℤ) + ((0 : ℕ) : ℤ) = n.val := q1
    have q2' : (b'.val : ℤ) + ((0 : ℕ) : ℤ) = n'.val := q2
    exact ⟨Fin.ext (by omega), Fin.ext (by omega), Fin.ext (by omega)⟩
  · rintro ⟨rfl, rfl, rfl⟩ a
    match a with
    | ⟨0, _⟩ =>
      show scatter_S4x4096x4096_S16384x2_S4x16384_0_12_12_1.start (ix2 h e) idx 0
        + (scatter_S4x4096x4096_S16384x2_S4x16384_0_12_12_1.window (ix2 h e) 0 : ℤ) = (h.val : ℤ)
      rw [s0, w0]; simp
    | ⟨1, _⟩ =>
      show scatter_S4x4096x4096_S16384x2_S4x16384_0_12_12_1.start (ix2 h e) idx 1
        + (scatter_S4x4096x4096_S16384x2_S4x16384_0_12_12_1.window (ix2 h e) 1 : ℤ) = (b.val : ℤ)
      rw [s1, w1]; simp
    | ⟨2, _⟩ =>
      show scatter_S4x4096x4096_S16384x2_S4x16384_0_12_12_1.start (ix2 h e) idx 2
        + (scatter_S4x4096x4096_S16384x2_S4x16384_0_12_12_1.window (ix2 h e) 2 : ℤ) = (b'.val : ℤ)
      rw [s2, w2]; simp

/-- The edges' entries added into the attention matrices. -/
theorem scatterA_at (x : FVec Ideal S4x4096x4096 .f32) (idx : IVec S16384x2 32) (u : FVec Ideal S4x16384 .f32)
    (B D : Fin 16384 → Fin 4096) (hB : ∀ e, idx (ix2 e 0) = BitVec.ofNat 32 (B e).val)
    (hD : ∀ e, idx (ix2 e 1) = BitVec.ofNat 32 (D e).val) (h : Fin 4) (n d : Fin 4096) :
    Host.scatterAdd scatter_S4x4096x4096_S16384x2_S4x16384_0_12_12_1 x idx u (ix3 h n d)
      = x (ix3 h n d) + ∑ e ∈ Finset.univ.filter (fun e => B e = n ∧ D e = d), u (ix2 h e) := by
  rw [scatterAdd_at, Finset.sum_filter, sum_idx2, Finset.sum_comm]
  refine congrArg _ (Finset.sum_congr rfl fun e _ => ?_)
  simp only [landsA idx e _ h (B e) (D e) n d (hB e) (hD e), ite_and]
  by_cases q : B e = n
  · by_cases q' : D e = d
    · simp [q, q']
    · simp [q, q']
  · simp [q]

end Cert.Gnn

end
-- ==== Proof.RefArrays.lean ====
/- The reference program's named intermediates up to the edge scores, in the arrays of `Arrays`. -/
module

public import proofs.«01_k».proof.Proof.Arrays
public import proofs.«01_k».proof.Proof.Gen.ReferenceIdeal.Run
public import Idealize.ShloMosaic.Lib.Pointwise

@[expose] public section

set_option maxRecDepth 16384

noncomputable section

namespace Cert.Gnn

open Cert.ReferenceIdeal Cert.ReferenceIdeal.Value Idealize.ShloMosaic Idealize.ShloMosaic.TcCoe

variable (V : Valuation τ sig (Elt Ideal))

theorem ref_v11 : res_main_v11 V = x2A (V main_arg0) (V main_arg3) (V main_arg4) (V main_arg5) (V main_arg6) := rfl

theorem ref_v42 : res_main_v42 V = giA (embA (res_main_v11 V) (V main_arg7) (V main_arg8)) (V main_arg9) (V main_arg10) := rfl

theorem ref_v108 : res_main_v108 V = scoreA (catA (rowsA (res_main_v75 V) (V main_arg1)) (rowsA (res_main_v75 V) (V main_arg2)))
    (V main_arg13) (V main_arg14) (V main_arg15) (V main_arg16) := rfl

theorem ref_v109 : res_main_v109 V = score2A (res_main_v108 V) := rfl

theorem ref_v75_form : res_main_v75 V = addf (hA (res_main_v42 V) (res_main_v47 V)) (mulf (res_main_v67 V) (res_main_v36 V)) := rfl

end Cert.Gnn

end
-- ==== Proof.TopSel.lean ====
/- Picking the greatest entry again and again, the first of equal ones, each picked entry then set below all others, gives
   the first positions of the stable descending sort. -/
module

public import Idealize.ShloMosaic.Lib.SortPrefix
public import Idealize.ShloMosaic.PureOps.Ideal

@[expose] public section

noncomputable section

namespace Cert.Gnn

open Idealize.ShloMosaic

/-- The first position of a greatest entry. -/
def IsFirstMax {n : ℕ} (s : Fin n → EReal) (k : Fin n) : Prop := ∀ p, s p ≤ s k ∧ (s p = s k → k ≤ p)

theorem exists_firstMax {n : ℕ} [NeZero n] (s : Fin n → EReal) : ∃ k, IsFirstMax s k := by
  classical
  obtain ⟨m, hm⟩ := Finite.exists_max s
  have hne : (Finset.univ.filter fun p => s p = s m).Nonempty := ⟨m, by simp⟩
  refine ⟨(Finset.univ.filter fun p => s p = s m).min' hne, fun p => ?_⟩
  have hk : s ((Finset.univ.filter fun p => s p = s m).min' hne) = s m :=
    (Finset.mem_filter.1 (Finset.min'_mem _ hne)).2
  refine ⟨by rw [hk]; exact hm p, fun h => Finset.min'_le _ _ ?_⟩
  exact Finset.mem_filter.2 ⟨Finset.mem_univ _, h.trans hk⟩

/-- The position of the first greatest entry. -/
def pick {n : ℕ} [NeZero n] (s : Fin n → EReal) : Fin n := (exists_firstMax s).choose

theorem pick_spec {n : ℕ} [NeZero n] (s : Fin n → EReal) : IsFirstMax s (pick s) := (exists_firstMax s).choose_spec

theorem IsFirstMax.eq {n : ℕ} {s : Fin n → EReal} {k k' : Fin n} (h : IsFirstMax s k) (h' : IsFirstMax s k') : k = k' := by
  have e : s k = s k' := le_antisymm (h' k).1 (h k').1
  exact le_antisymm ((h k').2 e.symm) ((h' k).2 e)

/-- The entries with the picked one set to −∞. -/
def dropPick {n : ℕ} [NeZero n] (s : Fin n → EReal) : Fin n → EReal := fun p => if p = pick s then ⊥ else s p

/-- The entries after `t` rounds. -/
def rest {n : ℕ} [NeZero n] (s : Fin n → EReal) : ℕ → Fin n → EReal
  | 0 => s
  | t + 1 => dropPick (rest s t)

/-- The position picked in round `t`. -/
def sel {n : ℕ} [NeZero n] (s : Fin n → EReal) (t : ℕ) : Fin n := pick (rest s t)

theorem rest_apply {n : ℕ} [NeZero n] (s : Fin n → EReal) (t : ℕ) (p : Fin n) :
    rest s t p = if ∃ u < t, sel s u = p then ⊥ else s p := by
  classical
  induction t with
  | zero => simp [rest]
  | succ t ih =>
    show (if p = pick (rest s t) then ⊥ else rest s t p) = _
    by_cases hp : p = pick (rest s t)
    · rw [if_pos hp, if_pos ⟨t, Nat.lt_succ_self t, hp.symm⟩]
    · rw [if_neg hp, ih]
      refine if_congr ⟨fun ⟨u, hu, e⟩ => ⟨u, by omega, e⟩, fun ⟨u, hu, e⟩ => ⟨u, ?_, e⟩⟩ rfl rfl
      rcases Nat.lt_succ_iff_lt_or_eq.1 hu with h | h
      · exact h
      · subst h; exact absurd e.symm hp

/-- With no entry at −∞ a round picks a position none of the earlier ones picked. -/
theorem sel_new {n : ℕ} [NeZero n] (s : Fin n → EReal) (hs : ∀ p, ⊥ < s p) {t : ℕ} (ht : t < n) (u : ℕ) (hu : u < t) :
    sel s u ≠ sel s t := by
  classical
  intro e
  have hex : ∃ p, p ∉ (Finset.range t).image (sel s) := by
    by_contra hcon
    push Not at hcon
    have h1 : Fintype.card (Fin n) ≤ ((Finset.range t).image (sel s)).card := by
      rw [← Finset.card_univ]; exact Finset.card_le_card fun p _ => hcon p
    have h2 := (Finset.card_image_le (s := Finset.range t) (f := sel s))
    rw [Fintype.card_fin] at h1
    rw [Finset.card_range] at h2
    omega
  obtain ⟨p, hp⟩ := hex
  have hle := (pick_spec (rest s t) p).1
  have hr : rest s t p = s p := by
    rw [rest_apply, if_neg]
    rintro ⟨v, hv, he⟩
    exact hp (Finset.mem_image.2 ⟨v, Finset.mem_range.2 hv, he⟩)
  have hb : rest s t (pick (rest s t)) = ⊥ := by
    rw [rest_apply, if_pos ⟨u, hu, e⟩]
  rw [hr, hb] at hle
  exact absurd (hs p) (not_lt.2 hle)

theorem rest_sel {n : ℕ} [NeZero n] (s : Fin n → EReal) (hs : ∀ p, ⊥ < s p) {t : ℕ} (ht : t < n) :
    rest s t (sel s t) = s (sel s t) := by
  rw [rest_apply, if_neg]
  rintro ⟨u, hu, e⟩
  exact sel_new s hs ht u hu e

/-- Of the entries not picked before, the one picked in round `t` is the first greatest. -/
theorem sel_best {n : ℕ} [NeZero n] (s : Fin n → EReal) (hs : ∀ p, ⊥ < s p) {t : ℕ} (ht : t < n) (p : Fin n)
    (hp : ∀ u < t, sel s u ≠ p) : s p ≤ s (sel s t) ∧ (s p = s (sel s t) → sel s t ≤ p) := by
  have h := pick_spec (rest s t) p
  have hr : rest s t p = s p := by
    rw [rest_apply, if_neg]; rintro ⟨u, hu, e⟩; exact hp u hu e
  have hq : rest s t (pick (rest s t)) = s (sel s t) := rest_sel s hs ht
  rw [hr, hq] at h
  exact h

/-- A stable sort may break its ties by position: an insertion only ever compares with later positions. -/
theorem stableSort_refine {n : ℕ} (R : Fin n → Fin n → Bool) (T : Fin n → Fin n → Bool) (l : List (Fin n))
    (hl : l.Pairwise (· < ·)) :
    stableSort R l = stableSort (fun a b => R a b || (T a b && decide (a < b))) l := by
  induction l with
  | nil => rfl
  | cons a l ih =>
    obtain ⟨ha, hl'⟩ := List.pairwise_cons.1 hl
    unfold stableSort
    rw [← ih hl']
    refine insertBefore_congr _ _ a _ fun b hb => ?_
    have hb' : b ∈ l := (perm_stableSort R l).mem_iff.mp hb
    have : ¬ b < a := not_lt.2 (ha b hb').le
    simp [this]

/-- The descending stable sort's first positions are the picked ones. -/
theorem sorted_eq_sel {n k : ℕ} [NeZero n] (s : Fin n → EReal) (hs : ∀ p, ⊥ < s p) (hk : k ≤ n) (i : Fin k) :
    sortedFrom (fun a b : Fin n => decide (s b < s a)) (i.castLE hk) = sel s i := by
  have h1 : sortPositions n (fun a b : Fin n => decide (s b < s a))
      = sortPositions n (fun a b : Fin n => decide (s b < s a) || (decide (s a = s b) && decide (a < b))) :=
    stableSort_refine _ (fun a b => decide (s a = s b)) _ (List.pairwise_lt_finRange n)
  have h2 : sortedFrom (fun a b : Fin n => decide (s b < s a)) (i.castLE hk)
      = sortedFrom (fun a b : Fin n => decide (s b < s a) || (decide (s a = s b) && decide (a < b))) (i.castLE hk) := by
    unfold sortedFrom
    simp only [List.get_eq_getElem, h1]; rfl
  rw [h2]
  have hB := StrictTotalBefore.of_key_then_position (fun x y : EReal => decide (y < x)) s
    (fun a => by simp) (fun a b c h h' => by simp only [decide_eq_true_eq] at *; exact h'.trans h)
    (fun a b => by simp only [decide_eq_true_eq]; rcases lt_trichotomy a b with h | h | h <;> simp [h])
  refine hB.sortedFrom_eq_of_prefix hk (fun j => sel s j) ?_ ?_ ?_ i
  · intro a b e
    rcases lt_trichotomy a.val b.val with h | h | h
    · exact absurd e (sel_new s hs (lt_of_lt_of_le b.isLt hk) _ h)
    · exact Fin.ext h
    · exact absurd e.symm (sel_new s hs (lt_of_lt_of_le a.isLt hk) _ h)
  · intro a b hab
    have h := sel_best s hs (lt_of_lt_of_le a.isLt hk) (sel s b) (fun u hu => sel_new s hs (lt_of_lt_of_le b.isLt hk) u (hu.trans hab))
    simp only [Bool.or_eq_false_iff, Bool.and_eq_false_iff, decide_eq_false_iff_not, not_lt]
    refine ⟨h.1, ?_⟩
    by_cases e : s (sel s b) = s (sel s a)
    · exact Or.inr (h.2 e)
    · exact Or.inl e
  · intro a p hp
    have h := sel_best s hs (lt_of_lt_of_le a.isLt hk) p (fun u hu => hp ⟨u, hu.trans a.isLt⟩)
    simp only [Bool.or_eq_false_iff, Bool.and_eq_false_iff, decide_eq_false_iff_not, not_lt]
    refine ⟨h.1, ?_⟩
    by_cases e : s p = s (sel s a)
    · exact Or.inr (h.2 e)
    · exact Or.inl e

/-! ## A left fold that keeps the better of two -/

/-- The fold of "the one with the smaller key" ends at one of the folded values, of the smallest key. -/
theorem foldl_best {α κ : Type} [LinearOrder κ] (key : α → κ) (l : List α) (a : α) :
    let r := l.foldl (fun x y => if key x < key y then x else y) a
    (r = a ∨ r ∈ l) ∧ key r ≤ key a ∧ ∀ y ∈ l, key r ≤ key y := by
  induction l generalizing a with
  | nil => simp
  | cons b l ih =>
    obtain ⟨h1, h2, h3⟩ := ih (if key a < key b then a else b)
    have hmin : key (if key a < key b then a else b) ≤ key a ∧ key (if key a < key b then a else b) ≤ key b := by
      split
      · next h => exact ⟨le_rfl, h.le⟩
      · next h => exact ⟨not_lt.1 h, le_rfl⟩
    refine ⟨?_, h2.trans hmin.1, fun y hy => ?_⟩
    · rcases h1 with h1 | h1
      · rw [List.foldl_cons, h1]
        split
        · exact Or.inl rfl
        · exact Or.inr List.mem_cons_self
      · exact Or.inr (List.mem_cons_of_mem _ h1)
    · rcases List.mem_cons.1 hy with rfl | hy
      · exact h2.trans hmin.2
      · exact h3 y hy

end Cert.Gnn

end
-- ==== Proof.Rounds.lean ====
/- One round of the kernel program's selection at one node: the row maximum, its first position, the entry taken there and the
   masked row, by the picked position of `TopSel`. -/
module

public import proofs.«01_k».proof.Proof.Arrays
public import proofs.«01_k».proof.Proof.TopSel
public import proofs.«01_k».proof.Proof.Extended
public import Idealize.ShloMosaic.Lib.Pointwise

@[expose] public section

set_option maxRecDepth 16384

noncomputable section

namespace Cert.Gnn

open Cert.KernelIdeal Cert.KernelIdeal.Gen Idealize.ShloMosaic Idealize.ShloMosaic.TcCoe Idealize.ShloMosaic.Pointwise

/-- A node's row. -/
def row (s : FVec Ideal S4096x32 .f32) (n : Fin 4096) : Fin 32 → EReal := fun k => s (ix2 n k)

theorem fold_pick (f : Fin 32 → EReal) : Finset.fold max (⊥ : EReal) f Finset.univ = f (pick f) := by
  refine le_antisymm ?_ ?_
  · exact Finset.fold_max_le _ |>.mpr ⟨bot_le, fun p _ => (pick_spec f p).1⟩
  · exact Finset.le_fold_max _ |>.mpr (Or.inr ⟨_, Finset.mem_univ _, le_refl _⟩)

theorem maxA_at (s : FVec Ideal S4096x32 .f32) (n : Fin 4096) : maxA s (ix2 n 0) = row s n (pick (row s n)) := by
  rw [← fold_pick (row s n)]
  pointwise [maxA]
  exact congrArg (fun z => Finset.fold max z (row s n) Finset.univ) negInf_eq

theorem firstA_at (s : FVec Ideal S4096x32 .f32) (n : Fin 4096) (k : Fin 32) :
    firstA s (ix2 n k) = if row s n k = row s n (pick (row s n)) then 1#32 else 0#32 := by
  rw [← maxA_at]
  unfold firstA
  pointwise []
  show BitVec.setWidth 32 (BitVec.ofBool (decide (row s n k = maxA s (ix2 n 0)))) = _
  by_cases h : row s n k = maxA s (ix2 n 0)
  · rw [if_pos h, decide_eq_true h]; rfl
  · rw [if_neg h, decide_eq_false h]; rfl

theorem maskA_at (i : IVec S4096x1 32) (s : FVec Ideal S4096x32 .f32) (n : Fin 4096) (k p : Fin 32)
    (h : i (ix2 n 0) = BitVec.ofNat 32 p.val) : maskA i s (ix2 n k) = if k = p then ⊥ else row s n k := by
  pointwise [maskA]
  rw [h]
  by_cases e : k = p
  · subst e
    rw [if_pos rfl, show IntOp.cmpi .eq (BitVec.ofNat 32 k.val) (BitVec.ofNat 32 k.val) = 1#1 from by simp [IntOp.cmpi]]
    exact negInf_eq
  · rw [if_neg e]
    have hne : BitVec.ofNat 32 k.val ≠ BitVec.ofNat 32 p.val := fun h' => e (Fin.ext (by
      have := congrArg BitVec.toNat h'
      simp only [BitVec.toNat_ofNat] at this
      omega))
    rw [show IntOp.cmpi .eq (BitVec.ofNat 32 k.val) (BitVec.ofNat 32 p.val) = 0#1 from by
      show BitVec.ofBool (BitVec.ofNat 32 k.val == BitVec.ofNat 32 p.val) = 0#1
      rw [beq_eq_false_iff_ne.2 hne]; rfl]
    rfl

/-- The gather that takes one entry of each row, at a position inside the row. -/
theorem gather_entry {α : Type} (d : S4096x32.Idx → α) (i : IVec S4096x1x1 32) (n : Fin 4096) (p : Fin 32)
    (h : i (ix3 n 0 0) = BitVec.ofNat 32 p.val) :
    Host.gather gather_S4096x32_S4096x1x1_S4096x1_n_1_0_0_1_2_11 d i (ix2 n 0) = d (ix2 n p) := by
  unfold Host.gather
  congr 1
  funext a
  refine Fin.ext ?_
  have h01 : a = 0 ∨ a = 1 := by
    match a with
    | ⟨0, _⟩ => exact Or.inl rfl
    | ⟨1, _⟩ => exact Or.inr rfl
  show gather_S4096x32_S4096x1x1_S4096x1_n_1_0_0_1_2_11.start (ix2 n 0) i a
    + gather_S4096x32_S4096x1x1_S4096x1_n_1_0_0_1_2_11.batchCoord (ix2 n 0) a
    + gather_S4096x32_S4096x1x1_S4096x1_n_1_0_0_1_2_11.offCoord (ix2 n 0) a = _
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4096x32_S4096x1x1_S4096x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x32_S4096x1x1_S4096x1_n_1_0_0_1_2_11.startIndexMap from List.mem_singleton.mpr rfl)]
    have hsi : gather_S4096x32_S4096x1x1_S4096x1_n_1_0_0_1_2_11.siIdx (ix2 n 0)
        ⟨List.idxOf (1 : Fin 2) gather_S4096x32_S4096x1x1_S4096x1_n_1_0_0_1_2_11.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi, h]
    have hp := p.isLt
    show min (BitVec.ofNat 32 p.val).toInt.toNat (32 - 1) = p.val
    rw [BitVec.toInt_eq_toNat_of_lt (by simp only [BitVec.toNat_ofNat]; omega)]
    simp only [BitVec.toNat_ofNat]
    omega

theorem takeIdx_at (i : IVec S4096x1 32) (n : Fin 4096) (p : Fin 32)
    (h : i (ix2 n 0) = BitVec.ofNat 32 p.val) : takeIdx i (ix3 n 0 0) = BitVec.ofNat 32 p.val := by
  pointwise [takeIdx]
  rw [h]
  clear h
  revert p
  decide

theorem takeA_at (d : IVec S4096x32 32) (i : IVec S4096x1 32) (n : Fin 4096) (p : Fin 32)
    (h : i (ix2 n 0) = BitVec.ofNat 32 p.val) : takeA d i (ix2 n 0) = d (ix2 n p) := by
  have hi := takeIdx_at i n p h
  have ho : takeOk (takeIdx i) (ix2 n 0) = 1#1 := by
    pointwise [takeOk]
    rw [Finset.univ_unique, Finset.fold_singleton]
    show IntOp.andi (IntOp.andi (IntOp.cmpi .sge (takeIdx i (ix3 n 0 0)) 0#32) (IntOp.cmpi .sle (takeIdx i (ix3 n 0 0)) 31#32)) 1#1 = 1#1
    rw [hi]
    clear hi h
    revert p
    decide
  show Scalar.select (takeOk (takeIdx i) (ix2 n 0)) (Host.gather _ d (takeIdx i) (ix2 n 0)) _ = _
  rw [ho, gather_entry d _ n p hi]
  rfl

/-! ## The first position of the greatest word -/

/-- Larger words first, then smaller positions. -/
def wordKey (a : BitVec 32 × BitVec 32) : ℤ ×ₗ ℤ := toLex (-a.1.toInt, a.2.toInt)

theorem reducer_key (a b : BitVec 32 × BitVec 32) :
    reducer_argmax_i32_i32 a b = if wordKey a < wordKey b then a else b := by
  have hlt : wordKey a < wordKey b ↔ b.1.toInt < a.1.toInt ∨ a.1.toInt = b.1.toInt ∧ a.2.toInt < b.2.toInt := by
    unfold wordKey
    rw [Prod.Lex.toLex_lt_toLex]
    constructor
    · rintro (h | ⟨h, h'⟩)
      · exact Or.inl (by simpa using h)
      · exact Or.inr ⟨by simpa using h, h'⟩
    · rintro (h | ⟨h, h'⟩)
      · exact Or.inl (by simpa using h)
      · exact Or.inr ⟨by simpa using h, h'⟩
  obtain ⟨a1, a2⟩ := a
  obtain ⟨b1, b2⟩ := b
  simp only at hlt
  rcases lt_trichotomy b1.toInt a1.toInt with h | h | h
  · have hne : a1 ≠ b1 := fun e => by rw [e] at h; omega
    have he : (a1 == b1) = false := beq_eq_false_iff_ne.2 hne
    rw [if_pos (hlt.2 (Or.inl h))]
    simp [he, reducer_argmax_i32_i32, IntOp.cmpi, IntOp.ori, IntOp.andi, Scalar.select, BitVec.slt, h, hne]
  · have e : b1 = a1 := BitVec.eq_of_toInt_eq h
    subst e
    by_cases h2 : a2.toInt < b2.toInt
    · rw [if_pos (hlt.2 (Or.inr ⟨rfl, h2⟩))]
      simp [reducer_argmax_i32_i32, IntOp.cmpi, IntOp.ori, IntOp.andi, Scalar.select, BitVec.slt, h2]
    · rw [if_neg (fun h' => by rcases hlt.1 h' with h' | h' <;> omega)]
      simp [reducer_argmax_i32_i32, IntOp.cmpi, IntOp.ori, IntOp.andi, Scalar.select, BitVec.slt, h2]
  · have hne : a1 ≠ b1 := fun e => by rw [e] at h; omega
    have hn : ¬ b1.toInt < a1.toInt := by omega
    have he : (a1 == b1) = false := beq_eq_false_iff_ne.2 hne
    rw [if_neg (fun h' => by rcases hlt.1 h' with h' | h' <;> omega)]
    simp [he, reducer_argmax_i32_i32, IntOp.cmpi, IntOp.ori, IntOp.andi, Scalar.select, BitVec.slt, hn, hne]

theorem mem_fiber (f : IVec S4096x32 32) (n : Fin 4096) (a : BitVec 32 × BitVec 32) :
    a ∈ Host.argReduceFiber f (iotaInDim S4096x32 32 1) reducesTo_S4096x32_S4096_d1 (ix1 n)
      ↔ ∃ k : Fin 32, a = (f (ix2 n k), BitVec.ofNat 32 k.val) := by
  unfold Host.argReduceFiber
  simp only [List.mem_map, List.mem_filter, List.mem_finRange, true_and, decide_eq_true_eq]
  constructor
  · rintro ⟨q, hq, rfl⟩
    generalize S4096x32.rowMajor.symm q = x at hq ⊢
    have h0 : x 0 = n := congrFun hq 0
    obtain ⟨k, hk⟩ : ∃ k : Fin 32, x = ix2 n k := by
      refine ⟨x 1, funext fun b => ?_⟩
      match b with
      | ⟨0, _⟩ => exact h0
      | ⟨1, _⟩ => rfl
    exact ⟨k, by rw [hk]; rfl⟩
  · rintro ⟨k, rfl⟩
    refine ⟨S4096x32.rowMajor (ix2 n k), ?_, ?_⟩
    · rw [Equiv.symm_apply_apply]; funext b
      match b with
      | ⟨0, _⟩ => rfl
    · rw [Equiv.symm_apply_apply]; rfl

theorem argA_at (s : FVec Ideal S4096x32 .f32) (n : Fin 4096) :
    argA s (ix2 n 0) = BitVec.ofNat 32 (pick (row s n)).val := by
  have e : argA s (ix2 n 0) = argmaxA (firstA s) (ix1 n) := by
    unfold argA
    generalize argmaxA (firstA s) = f
    pointwise []
  rw [e]
  unfold argmaxA
  rw [Host.reduce2_eq_foldl_fiber, show reducer_argmax_i32_i32 = fun a b => if wordKey a < wordKey b then a else b from
    funext fun a => funext fun b => reducer_key a b]
  have hb := foldl_best wordKey (Host.argReduceFiber (firstA s) (iotaInDim S4096x32 32 1) reducesTo_S4096x32_S4096_d1 (ix1 n))
    (constantI S_ 32 2147483648#32 (Shape.Idx.first h_S_), constantI S_ 32 0#32 (Shape.Idx.first h_S_))
  generalize List.foldl _ _ _ = r at hb ⊢
  obtain ⟨h1, -, h3⟩ := hb
  have hle : ∀ k : Fin 32, wordKey r ≤ wordKey (firstA s (ix2 n k), BitVec.ofNat 32 k.val) :=
    fun k => h3 _ ((mem_fiber _ n _).2 ⟨k, rfl⟩)
  have hp := hle (pick (row s n))
  rw [firstA_at, if_pos rfl] at hp
  rcases h1 with h1 | h1
  · rw [h1] at hp
    rcases Prod.Lex.toLex_le_toLex.1 hp with h | ⟨h, -⟩
    · exact absurd h (show ¬ (-(2147483648#32).toInt < -(1#32).toInt) by decide)
    · exact absurd h (show ¬ (-(2147483648#32).toInt = -(1#32).toInt) by decide)
  · obtain ⟨k, rfl⟩ := (mem_fiber _ n _).1 h1
    rw [firstA_at] at hp
    by_cases hk : row s n k = row s n (pick (row s n))
    · rw [if_pos hk] at hp
      have h2 := (pick_spec (row s n) k).2 hk
      rcases Prod.Lex.toLex_le_toLex.1 hp with h | ⟨-, h⟩
      · exact absurd h (lt_irrefl _)
      · have h4 : (BitVec.ofNat 32 k.val).toInt ≤ (BitVec.ofNat 32 (pick (row s n)).val).toInt := h
        have := k.isLt
        have := (pick (row s n)).isLt
        rw [BitVec.toInt_eq_toNat_of_lt (by simp only [BitVec.toNat_ofNat]; omega),
          BitVec.toInt_eq_toNat_of_lt (by simp only [BitVec.toNat_ofNat]; omega)] at h4
        simp only [BitVec.toNat_ofNat] at h4
        have : k = pick (row s n) := le_antisymm (by rw [Fin.le_def]; omega) h2
        rw [this]
    · rw [if_neg hk] at hp
      rcases Prod.Lex.toLex_le_toLex.1 hp with h | ⟨h, -⟩
      · exact absurd h (show ¬ (-(0#32).toInt < -(1#32).toInt) by decide)
      · exact absurd h (show ¬ (-(0#32).toInt = -(1#32).toInt) by decide)

/-! ## Four rounds -/

theorem nextA_row (s : FVec Ideal S4096x32 .f32) (n : Fin 4096) : row (nextA s) n = dropPick (row s n) := by
  funext k
  have h := maskA_at (argA s) s n k _ (argA_at s n)
  unfold nextA
  exact h

/-- The scores after `t` rounds. -/
def nextN (s : FVec Ideal S4096x32 .f32) : ℕ → FVec Ideal S4096x32 .f32
  | 0 => s
  | t + 1 => nextA (nextN s t)

theorem nextN_row (s : FVec Ideal S4096x32 .f32) (n : Fin 4096) (t : ℕ) : row (nextN s t) n = rest (row s n) t := by
  induction t with
  | zero => rfl
  | succ t ih => exact (nextA_row _ n).trans (congrArg dropPick ih)

theorem weight_round (s : FVec Ideal S4096x32 .f32) (n : Fin 4096) (hs : ∀ p, ⊥ < row s n p) {t : ℕ} (ht : t < 32) :
    maxA (nextN s t) (ix2 n 0) = s (ix2 n (sel (row s n) t)) := by
  rw [maxA_at, nextN_row]
  exact rest_sel (row s n) hs ht

theorem target_round (d : IVec S4096x32 32) (s : FVec Ideal S4096x32 .f32) (n : Fin 4096) (t : ℕ) :
    takeA d (argA (nextN s t)) (ix2 n 0) = d (ix2 n (sel (row s n) t)) := by
  have h := argA_at (nextN s t) n
  rw [nextN_row] at h
  exact takeA_at d _ n _ h

theorem topWA_at (s : FVec Ideal S4096x32 .f32) (n : Fin 4096) (hs : ∀ p, ⊥ < row s n p) (k : Fin 4) :
    topWA s (ix2 n k) = s (ix2 n (sel (row s n) k)) := by
  fin_cases k
  · exact Eq.trans (by pointwise [topWA, cat4F]; simp only [nextN]) (weight_round s n hs (t := 0) (by decide))
  · exact Eq.trans (by pointwise [topWA, cat4F]; simp only [nextN]) (weight_round s n hs (t := 1) (by decide))
  · exact Eq.trans (by pointwise [topWA, cat4F]; simp only [nextN]) (weight_round s n hs (t := 2) (by decide))
  · exact Eq.trans (by pointwise [topWA, cat4F]; simp only [nextN]) (weight_round s n hs (t := 3) (by decide))

theorem topDA_at (d : IVec S4096x32 32) (s : FVec Ideal S4096x32 .f32) (n : Fin 4096) (k : Fin 4) :
    topDA d s (ix2 n k) = d (ix2 n (sel (row s n) k)) := by
  fin_cases k
  · exact Eq.trans (by pointwise [topDA, cat4I]; simp only [nextN]) (target_round d s n 0)
  · exact Eq.trans (by pointwise [topDA, cat4I]; simp only [nextN]) (target_round d s n 1)
  · exact Eq.trans (by pointwise [topDA, cat4I]; simp only [nextN]) (target_round d s n 2)
  · exact Eq.trans (by pointwise [topDA, cat4I]; simp only [nextN]) (target_round d s n 3)

end Cert.Gnn

end
-- ==== Proof.RefGat.lean ====
/- The reference's attention step as arrays, and each array at an index in the numbers of `Gat`. -/
module

public import proofs.«01_k».proof.Proof.Gat
public import proofs.«01_k».proof.Proof.Scatters
public import proofs.«01_k».proof.Proof.RefArrays
public import proofs.«01_k».proof.Proof.Rounds
public import Idealize.ShloMosaic.Lib.Pointwise.IndexBridge
public import Idealize.ShloMosaic.Lib.Routing.OpsSet

@[expose] public section

set_option maxRecDepth 16384

noncomputable section

namespace Cert.Gnn

open Cert.ReferenceIdeal Cert.ReferenceIdeal.Facts₀ Cert.ReferenceIdeal.Value Idealize.ShloMosaic Idealize.ShloMosaic.TcCoe Idealize.ShloMosaic.Pointwise

/-- The kept edges' words with jax's wrap, as the gathers take them. -/
def wrapT (n : BitVec 32) (i : IVec S16384 32) : IVec S16384x1 32 :=
  broadcastInDim S16384x1 ![0] bcast_S16384_S16384x1_0 (select (cmpi .slt i (broadcastInDim S16384 ![] bcast_S_S16384 (constantI S_ 32 0#32)))
    (addi i (broadcastInDim S16384 ![] bcast_S_S16384 (constantI S_ 32 n))) i)

/-- The kept edges' numbers. -/
def keepA (s : FVec Ideal S4096x32 .f32) : IVec S16384 32 :=
  shapeCast _ (addi (broadcastInDim S4096x4 ![0, 1] bcast_S4096x1_S4096x4_0_1 (muli (broadcastInDim S4096x1 ![0] bcast_S4096_S4096x1_0 (iotaInDim S4096 32 0)) (broadcastInDim S4096x1 ![] bcast_S_S4096x1 (constantI S_ 32 32#32)))) ((Host.topK S4096x4 1 (FloatOps.cmpfTotal .gt) s sliceFits_S4096x32_S4096x4).2)) shapeCasts_S4096x4_S16384

/-- An edge array at the kept edges. -/
def takeT {α : Type} (x : S131072.Idx → α) (keep : IVec S16384 32) : S16384.Idx → α :=
  Host.gather gather_S131072_S16384x1_S16384_n_0_n_n_0_1_1 x (wrapT 131072#32 keep)

/-- A node's four attention shares. -/
def shareA (X : FVec Ideal S4096x4x8 .f32) (a : FVec Ideal S4x8 .f32) : FVec Ideal S4096x4 .f32 :=
  Host.reduceAdd (mulf X (broadcastInDim S4096x4x8 ![0, 1, 2] bcast_S1x4x8_S4096x4x8_0_1_2 (broadcastInDim S1x4x8 ![1, 2] bcast_S4x8_S1x4x8_1_2 a)))
    (constant S_ .f32 0x00000000#32) reducesTo_S4096x4x8_S4096x4_d2 h_S_

/-- The nodes' quadruples at the kept edges. -/
def rowsT (x : FVec Ideal S4096x4 .f32) (i : IVec S16384 32) : FVec Ideal S16384x4 .f32 :=
  Host.gather gather_S4096x4_S16384x1_S16384x4_1_0_n_n_0_1_14 x (wrapT 4096#32 i)

/-- The leaky rectifier. -/
def leakyA (x : FVec Ideal S16384x4 .f32) : FVec Ideal S16384x4 .f32 :=
  select (cmpf .oge x (broadcastInDim S16384x4 ![] bcast_S_S16384x4 (constant S_ .f32 0x00000000#32))) x
    (mulf (broadcastInDim S16384x4 ![] bcast_S_S16384x4 (id (constant S_ .f32 0x3E4CCCCD#32))) x)

/-- The exponentials, shifted by the greatest entry. -/
def expA (x : FVec Ideal S16384x4 .f32) : FVec Ideal S16384x4 .f32 :=
  Host.exp (subf x (broadcastInDim S16384x4 ![] bcast_S_S16384x4 (Host.reduce FloatOps.maximumf x (constant S_ .f32 0xFF800000#32) reducesTo_S16384x4_S_d0_1 h_S_)))

/-- The nodes' denominators. -/
def denA (dst : IVec S16384 32) (ex : FVec Ideal S16384x4 .f32) : FVec Ideal S4096x4 .f32 :=
  Host.scatterAdd scatter_S4096x4_S16384x1_S16384x4_1_0_0_1 (broadcastInDim S4096x4 ![] bcast_S_S4096x4 (constant S_ .f32 0x00000000#32))
    (broadcastInDim S16384x1 ![0] bcast_S16384_S16384x1_0 dst) ex

/-- The edges' weights. -/
def alphaA (dst : IVec S16384 32) (ex : FVec Ideal S16384x4 .f32) (w : FVec Ideal S16384 .f32) : FVec Ideal S16384x4 .f32 :=
  mulf (Host.divf ex (addf (rowsT (denA dst ex) dst) (broadcastInDim S16384x4 ![] bcast_S_S16384x4 (constant S_ .f32 0x24E69595#32))))
    (broadcastInDim S16384x4 ![0, 1] bcast_S16384x1_S16384x4_0_1 (broadcastInDim S16384x1 ![0] bcast_S16384_S16384x1_0 w))

/-- The attention matrices before their rows are normalised. -/
def denseA (src dst : IVec S16384 32) (al : FVec Ideal S16384x4 .f32) : FVec Ideal S4x4096x4096 .f32 :=
  Host.scatterAdd scatter_S4x4096x4096_S16384x2_S4x16384_0_12_12_1 (broadcastInDim S4x4096x4096 ![] bcast_S_S4x4096x4096 (constant S_ .f32 0x00000000#32))
    (concatenate S16384x2 1 [⟨S16384x1, wrapT 4096#32 src⟩, ⟨S16384x1, wrapT 4096#32 dst⟩] concatenates_S16384x1_S16384x1_S16384x2_d1)
    (transpose S4x16384 [1, 0] al transposes_S16384x4_S4x16384_1_0)

/-! ## Each at an index -/

theorem wrapT_at (n : BitVec 32) (i : IVec S16384 32) (e : Fin 16384) (m : ℕ) (hm : m < 2 ^ 31) (h : i (ix1 e) = BitVec.ofNat 32 m) :
    wrapT n i (ix2 e 0) = BitVec.ofNat 32 m := by
  pointwise [wrapT]
  rw [h]
  exact Routing.wrap_of_lt _ _ (by simp only [BitVec.toNat_ofNat]; omega)

theorem takeT_at {α : Type} (x : S131072.Idx → α) (keep : IVec S16384 32) (e : Fin 16384) (p : Fin 131072)
    (h : keep (ix1 e) = BitVec.ofNat 32 p.val) : takeT x keep (ix1 e) = x (ix1 p) := by
  have hw := wrapT_at 131072#32 keep e p.val (by omega) h
  unfold takeT
  rw [ix1_eq_valueIdx, ix1_eq_valueIdx]
  exact Routing.gather_take1 gather_S131072_S16384x1_S16384_n_0_n_n_0_1_1 rfl rfl rfl rfl x _ e p
    (by rw [← ix2_eq_valueIdx]; exact hw) (by norm_num)

theorem rowsT_at (x : FVec Ideal S4096x4 .f32) (i : IVec S16384 32) (e : Fin 16384) (h : Fin 4) (b : Fin 4096)
    (hb : i (ix1 e) = BitVec.ofNat 32 b.val) : rowsT x i (ix2 e h) = x (ix2 b h) := by
  have hw := wrapT_at 4096#32 i e b.val (by omega) hb
  unfold rowsT
  rw [ix2_eq_valueIdx, ix2_eq_valueIdx]
  exact Routing.gather_row gather_S4096x4_S16384x1_S16384x4_1_0_n_n_0_1_14 rfl rfl rfl rfl rfl x _ e h b
    (by rw [← ix2_eq_valueIdx]; exact hw) (by norm_num)

theorem shareA_at (X : FVec Ideal S4096x4x8 .f32) (a : FVec Ideal S4x8 .f32) (n : Fin 4096) (h : Fin 4) :
    shareA X a (ix2 n h) = ∑ c : Fin 8, X (ix3 n h c) * a (ix2 h c) := by
  pointwise [shareA]

theorem leakyA_at (x : FVec Ideal S16384x4 .f32) (e : Fin 16384) (h : Fin 4) : leakyA x (ix2 e h) = leaky (x (ix2 e h)) := by
  pointwise [leakyA]
  rfl

theorem expA_at (x : FVec Ideal S16384x4 .f32) (e : Fin 16384) (h : Fin 4) : expA x (ix2 e h) = exK x (ix2 e h) := by
  pointwise [expA, exK]

/-- A two-operand sort of rows reads each row at the sorted position. -/
theorem sort2_at {α β : Type} (cmp : α × β → α × β → BitVec 1) (x : S4096x32.Idx → α) (y : S4096x32.Idx → β) (j : S4096x32.Idx) :
    (Host.sort2 S4096x32 1 cmp x y).2 j = y (j.along 1
      (sortedFrom (fun p p' => cmp (x (j.along 1 p), y (j.along 1 p)) (x (j.along 1 p'), y (j.along 1 p')) == 1#1) (j 1))) := rfl

theorem iota_along (j : S4096x32.Idx) (q : Fin 32) : iotaInDim S4096x32 32 1 (j.along 1 q) = BitVec.ofNat 32 q.val := rfl

/-- The printed descending sort's positions are the picked ones. -/
theorem topK_at (s : FVec Ideal S4096x32 .f32) (n : Fin 4096) (k : Fin 4) (hs : ∀ p, ⊥ < row s n p) :
    (Host.topK S4096x4 1 (FloatOps.cmpfTotal (F := Ideal) (φ := .f32) .gt) s sliceFits_S4096x32_S4096x4).2 (ix2 n k)
      = BitVec.ofNat 32 (sel (row s n) k).val := by
  rw [← sorted_eq_sel (row s n) hs (by decide : 4 ≤ 32) k]
  have hc : (fun a b : Fin 32 => decide (row s n b < row s n a))
      = fun a b : Fin 32 => FloatOps.cmpfTotal (F := Ideal) (φ := .f32) .gt (row s n a) (row s n b) == 1#1 := by
    funext a b
    show _ = (BitVec.ofBool (decide (row s n b < row s n a)) == 1#1)
    cases decide (row s n b < row s n a) <;> rfl
  rw [hc]
  have hs2 : (Host.topK S4096x4 1 (FloatOps.cmpfTotal (F := Ideal) (φ := .f32) .gt) s sliceFits_S4096x32_S4096x4).2 (ix2 n k)
      = (Host.sort2 S4096x32 1 (fun l r => FloatOps.cmpfTotal (F := Ideal) (φ := .f32) .gt l.1 r.1) s (iotaInDim S4096x32 32 1)).2
        (ix2 n (k.castLE (by decide : 4 ≤ 32))) := by
    unfold Host.topK
    refine congrArg (Host.sort2 S4096x32 1 (fun l r => FloatOps.cmpfTotal (F := Ideal) (φ := .f32) .gt l.1 r.1) s (iotaInDim S4096x32 32 1)).2
      (funext fun a => Fin.ext ?_)
    match a with
    | ⟨0, _⟩ => exact Nat.zero_add _
    | ⟨1, _⟩ => exact Nat.zero_add _
  rw [hs2]
  have ha : ∀ p : Fin 32, (ix2 n (k.castLE (by decide : 4 ≤ 32)) : S4096x32.Idx).along 1 p = ix2 n p := fun p => by
    funext a
    match a with
    | ⟨0, _⟩ => rfl
    | ⟨1, _⟩ => rfl
  have hf : (fun p p' : Fin 32 => FloatOps.cmpfTotal (F := Ideal) (φ := .f32) .gt
      (s ((ix2 n (k.castLE (by decide : 4 ≤ 32)) : S4096x32.Idx).along 1 p))
      (s ((ix2 n (k.castLE (by decide : 4 ≤ 32)) : S4096x32.Idx).along 1 p')) == 1#1)
      = fun a b : Fin 32 => FloatOps.cmpfTotal (F := Ideal) (φ := .f32) .gt (row s n a) (row s n b) == 1#1 :=
    funext fun p => funext fun p' =>
      congrArg₂ (fun x y => FloatOps.cmpfTotal (F := Ideal) (φ := .f32) .gt x y == 1#1) (congrArg s (ha p)) (congrArg s (ha p'))
  rw [sort2_at]
  refine (iota_along _ _).trans ?_
  exact congrArg (fun g : Fin 32 → Fin 32 → Bool => BitVec.ofNat 32 (sortedFrom g (k.castLE (by decide : 4 ≤ 32))).val) hf

theorem keepA_at (s : FVec Ideal S4096x32 .f32) (n : Fin 4096) (k : Fin 4) (hs : ∀ p, ⊥ < row s n p) :
    keepA s (ix1 (edgeOf n k)) = BitVec.ofNat 32 (32 * n.val + (sel (row s n) k).val) := by
  have hk := topK_at s n k hs
  have hp := (sel (row s n) k).isLt
  have e0 : (⟨(edgeOf n k).val / 4, by omega⟩ : Fin 4096) = n := quart_edgeOf n k
  have e1 : (⟨(edgeOf n k).val % 4, by omega⟩ : Fin 4) = k := Fin.ext (by simp only [edgeOf]; omega)
  have e2 : (edgeOf n k).val / 4 = n.val := congrArg Fin.val e0
  pointwise [keepA]
  rw [e0, e1, e2]
  refine (congrArg (IntOp.addi (IntOp.muli (BitVec.ofNat 32 n.val) 32#32)) hk).trans ?_
  refine BitVec.eq_of_toNat_eq ?_
  simp only [IntOp.addi, IntOp.muli, BitVec.toNat_add, BitVec.toNat_mul, BitVec.toNat_ofNat]
  omega

section Graph

variable (src dst : IVec S16384 32) (D : Fin 16384 → Fin 4096) (hs : ∀ e, src (ix1 e) = BitVec.ofNat 32 (quart e).val)
  (hd : ∀ e, dst (ix1 e) = BitVec.ofNat 32 (D e).val)
include hd

theorem denA_at (ex : FVec Ideal S16384x4 .f32) (n : Fin 4096) (h : Fin 4) :
    denA dst ex (ix2 n h) = ∑ e ∈ Finset.univ.filter (fun e => D e = n), ex (ix2 e h) := by
  unfold denA
  rw [scatter4_at _ _ _ D (fun e => (by pointwise [] : _ = dst (ix1 e)).trans (hd e))]
  refine (congrArg (· + _) (?_ : _ = (0 : EReal))).trans (zero_add _)
  pointwise []

variable (w : FVec Ideal S16384 .f32) (wS : Fin 16384 → EReal) (sa ta : Fin 4096 → Fin 4 → EReal)

theorem alphaA_at (ex : FVec Ideal S16384x4 .f32) (hx : ∀ e h, ex (ix2 e h) = exS D sa ta e h) (hw : ∀ e, w (ix1 e) = wS e)
    (e : Fin 16384) (h : Fin 4) : alphaA dst ex w (ix2 e h) = alS D wS sa ta e h := by
  have hr : rowsT (denA dst ex) dst (ix2 e h) = denS D sa ta (D e) h := by
    rw [rowsT_at _ dst e h (D e) (hd e), denA_at dst D hd]
    exact Finset.sum_congr rfl fun e _ => hx e h
  unfold alphaA
  generalize rowsT (denA dst ex) dst = r at hr
  pointwise []
  rw [hr, hx, hw]
  rfl

include hs

theorem denseA_at (al : FVec Ideal S16384x4 .f32) (ha : ∀ e h, al (ix2 e h) = alS D wS sa ta e h) (h : Fin 4) (n d : Fin 4096) :
    denseA src dst al (ix3 h n d) = attR D wS sa ta h n d := by
  unfold denseA
  have h0 := fun e => wrapT_at 4096#32 src e (quart e).val (by omega) (hs e)
  have h1 := fun e => wrapT_at 4096#32 dst e (D e).val (by omega) (hd e)
  generalize wrapT 4096#32 src = x at h0 ⊢
  generalize wrapT 4096#32 dst = y at h1 ⊢
  rw [scatterA_at _ _ _ quart D (fun e => (by pointwise [] : _ = x (ix2 e 0)).trans (h0 e))
    (fun e => (by pointwise [] : _ = y (ix2 e 0)).trans (h1 e))]
  refine (congrArg (· + _) (?_ : _ = (0 : EReal))).trans ((zero_add _).trans ?_)
  · pointwise []
  · unfold attR
    refine Finset.sum_congr rfl fun e _ => ?_
    rw [← ha]
    pointwise []

end Graph

end Cert.Gnn

end
-- ==== Proof.RefResult.lean ====
/- The reference program's two results, at an index, in the numbers of `Gat`. -/
module

public import proofs.«01_k».proof.Proof.RefGat

@[expose] public section

set_option maxRecDepth 16384

noncomputable section

namespace Cert.Gnn

open Cert.ReferenceIdeal Cert.ReferenceIdeal.Facts₀ Cert.ReferenceIdeal.Value Idealize.ShloMosaic Idealize.ShloMosaic.TcCoe Idealize.ShloMosaic.Pointwise

/-- The nodes' transformed rows at the kept edges' sources. -/
def rowsX (X : FVec Ideal S4096x4x8 .f32) (i : IVec S16384 32) : FVec Ideal S16384x4x8 .f32 :=
  Host.gather gather_S4096x4x8_S16384x1_S16384x4x8_12_0_n_n_0_1_148 X (wrapT 4096#32 i)

/-- The features of the first result. -/
def outA (src dst : IVec S16384 32) (al : FVec Ideal S16384x4 .f32) (X : FVec Ideal S4096x4x8 .f32) (b : FVec Ideal S32 .f32) : FVec Ideal S1x4096x32 .f32 :=
  broadcastInDim S1x4096x32 ![1, 2] bcast_S4096x32_S1x4096x32_1_2 (addf (shapeCast _
    (Host.scatterAdd scatter_S4096x4x8_S16384x1_S16384x4x8_12_0_0_1 (broadcastInDim S4096x4x8 ![] bcast_S_S4096x4x8 (constant S_ .f32 0x00000000#32))
      (broadcastInDim S16384x1 ![0] bcast_S16384_S16384x1_0 dst)
      (mulf (broadcastInDim S16384x4x8 ![0, 1, 2] bcast_S16384x4x1_S16384x4x8_0_1_2 (broadcastInDim S16384x4x1 ![0, 1] bcast_S16384x4_S16384x4x1_0_1 al))
        (rowsX X src))) shapeCasts_S4096x4x8_S4096x32)
    (broadcastInDim S4096x32 ![0, 1] bcast_S1x32_S4096x32_0_1 (broadcastInDim S1x32 ![1] bcast_S32_S1x32_1 b)))

/-- The attention of the second result. -/
def attA (x : FVec Ideal S4x4096x4096 .f32) : FVec Ideal S1x4x4096x4096 .f32 :=
  broadcastInDim S1x4x4096x4096 ![1, 2, 3] bcast_S4x4096x4096_S1x4x4096x4096_1_2_3 (Host.divf x
    (broadcastInDim S4x4096x4096 ![0, 1, 2] bcast_S4x4096x1_S4x4096x4096_0_1_2 (maximumf
      (broadcastInDim S4x4096x1 ![] bcast_S_S4x4096x1 (id (constant S_ .f32 0x3089705F#32)))
      (broadcastInDim S4x4096x1 ![0, 1] bcast_S4x4096_S4x4096x1_0_1 (Host.reduceAdd x (constant S_ .f32 0x00000000#32) reducesTo_S4x4096x4096_S4x4096_d2 h_S_)))))

/-- A gather of whole `4 × 8` tables by the row. -/
theorem rowsX_at (X : FVec Ideal S4096x4x8 .f32) (i : IVec S16384 32) (e : Fin 16384) (h : Fin 4) (c : Fin 8) (b : Fin 4096)
    (hb : i (ix1 e) = BitVec.ofNat 32 b.val) : rowsX X i (ix3 e h c) = X (ix3 b h c) := by
  have hw := wrapT_at 4096#32 i e b.val (by omega) hb
  unfold rowsX
  generalize wrapT 4096#32 i = x at hw
  unfold Host.gather
  refine congrArg X (funext fun a => Fin.ext ?_)
  match a with
  | ⟨0, _⟩ =>
    show gather_S4096x4x8_S16384x1_S16384x4x8_12_0_n_n_0_1_148.start (ix3 e h c) x 0
      + gather_S4096x4x8_S16384x1_S16384x4x8_12_0_n_n_0_1_148.batchCoord (ix3 e h c) 0
      + gather_S4096x4x8_S16384x1_S16384x4x8_12_0_n_n_0_1_148.offCoord (ix3 e h c) 0 = b.val
    rw [GatherDims.batchCoord_eq_zero _ _ _ (fun h => absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S4096x4x8_S16384x1_S16384x4x8_12_0_n_n_0_1_148.startIndexMap from List.mem_singleton.mpr rfl)]
    have hsi : gather_S4096x4x8_S16384x1_S16384x4x8_12_0_n_n_0_1_148.siIdx (ix3 e h c)
        ⟨List.idxOf (0 : Fin 3) gather_S4096x4x8_S16384x1_S16384x4x8_12_0_n_n_0_1_148.startIndexMap,
          List.idxOf_lt_length_iff.2 (List.mem_singleton.mpr rfl)⟩ = ix2 e 0 := by
      funext q; refine Fin.ext ?_
      match q with
      | ⟨0, _⟩ => rfl
      | ⟨1, _⟩ => rfl
    rw [hsi, hw]
    show min (BitVec.ofNat 32 b.val).toInt.toNat (4096 - 1) = b.val
    rw [toInt_node]
    omega
  | ⟨1, _⟩ =>
    show gather_S4096x4x8_S16384x1_S16384x4x8_12_0_n_n_0_1_148.start (ix3 e h c) x 1
      + gather_S4096x4x8_S16384x1_S16384x4x8_12_0_n_n_0_1_148.batchCoord (ix3 e h c) 1
      + gather_S4096x4x8_S16384x1_S16384x4x8_12_0_n_n_0_1_148.offCoord (ix3 e h c) 1 = h.val
    rw [GatherDims.batchCoord_eq_zero _ _ _ (fun h => absurd h List.not_mem_nil)]
    unfold GatherDims.start
    rw [dif_neg (show (1 : Fin 3) ∉ gather_S4096x4x8_S16384x1_S16384x4x8_12_0_n_n_0_1_148.startIndexMap from by decide)]
    exact Nat.zero_add _
  | ⟨2, _⟩ =>
    show gather_S4096x4x8_S16384x1_S16384x4x8_12_0_n_n_0_1_148.start (ix3 e h c) x 2
      + gather_S4096x4x8_S16384x1_S16384x4x8_12_0_n_n_0_1_148.batchCoord (ix3 e h c) 2
      + gather_S4096x4x8_S16384x1_S16384x4x8_12_0_n_n_0_1_148.offCoord (ix3 e h c) 2 = c.val
    rw [GatherDims.batchCoord_eq_zero _ _ _ (fun h => absurd h List.not_mem_nil)]
    unfold GatherDims.start
    rw [dif_neg (show (2 : Fin 3) ∉ gather_S4096x4x8_S16384x1_S16384x4x8_12_0_n_n_0_1_148.startIndexMap from by decide)]
    exact Nat.zero_add _

/-! ## The named intermediates -/

section Names

variable (V : Valuation τ sig (Elt Ideal))

theorem ref_v116 : res_main_v116 V = keepA (res_main_v109 V) := rfl
theorem ref_v123 : res_main_v123 V = takeT (V main_arg1) (res_main_v116 V) := rfl
theorem ref_v130 : res_main_v130 V = takeT (V main_arg2) (res_main_v116 V) := rfl
theorem ref_v163 : res_main_v163 V = addf (rowsT (shareA (res_main_v140 V) (V main_arg18)) (res_main_v123 V))
    (rowsT (shareA (res_main_v140 V) (V main_arg19)) (res_main_v130 V)) := rfl
theorem ref_v164 : res_main_v164 V = leakyA (res_main_v163 V) := rfl
theorem ref_v168 : res_main_v168 V = expA (res_main_v164 V) := rfl
theorem ref_v184 : res_main_v184 V = alphaA (res_main_v130 V) (res_main_v168 V) (takeT (res_main_v108 V) (res_main_v116 V)) := rfl
theorem ref_v217 : res_main_v217 V = denseA (res_main_v123 V) (res_main_v130 V) (res_main_v184 V) := rfl

end Names

/-! ## The results -/

/-- The position picked for a kept edge. -/
def posOf (s : FVec Ideal S4096x32 .f32) (e : Fin 16384) : Fin 32 := sel (row s (quart e)) (e.val % 4)

/-- The number of a kept edge among all edges. -/
def keptOf (s : FVec Ideal S4096x32 .f32) (e : Fin 16384) : Fin 131072 := ⟨32 * (quart e).val + (posOf s e).val, by omega⟩

theorem edge_split (e : Fin 16384) : e = edgeOf (quart e) ⟨e.val % 4, by omega⟩ :=
  Fin.ext (by simp only [edgeOf, quart]; omega)

theorem keepA_edge (s : FVec Ideal S4096x32 .f32) (hs : ∀ n p, ⊥ < row s n p) (e : Fin 16384) :
    keepA s (ix1 e) = BitVec.ofNat 32 (keptOf s e).val := by
  have h := keepA_at s (quart e) ⟨e.val % 4, by omega⟩ (hs (quart e))
  rw [← edge_split e] at h
  exact h

variable (V : Valuation τ sig (Elt Ideal)) (T : Fin 131072 → Fin 4096)

theorem score2A_at (x : FVec Ideal S131072 .f32) (n : Fin 4096) (p : Fin 32) (q : Fin 131072) (hq : q.val = 32 * n.val + p.val) :
    score2A x (ix2 n p) = x (ix1 q) := by
  pointwise [score2A]
  exact congrArg (fun i => x (ix1 i)) (Fin.ext (by simp only [hq]; omega))

/-- The reference's data in numbers. -/
def Dr : Fin 16384 → Fin 4096 := fun e => T (keptOf (res_main_v109 V) e)
def wr : Fin 16384 → EReal := fun e => row (res_main_v109 V) (quart e) (posOf (res_main_v109 V) e)
def xr : Fin 4096 → Fin 32 → EReal := fun n j => res_main_v140 V (ix3 n (headOf j) (⟨j.val % 8, by omega⟩ : Fin 8))
def sr : Fin 4096 → Fin 4 → EReal := fun n h => shareA (res_main_v140 V) (V main_arg18) (ix2 n h)
def tr : Fin 4096 → Fin 4 → EReal := fun n h => shareA (res_main_v140 V) (V main_arg19) (ix2 n h)
def br : Fin 32 → EReal := fun j => V main_arg20 (ix1 j)

variable (hs : ∀ n p, ⊥ < row (res_main_v109 V) n p)
  (h1 : ∀ e : Fin 131072, V main_arg1 (ix1 e) = BitVec.ofNat 32 (e.val / 32))
  (h2 : ∀ e : Fin 131072, V main_arg2 (ix1 e) = BitVec.ofNat 32 (T e).val)

include hs

theorem v116_at (e : Fin 16384) : res_main_v116 V (ix1 e) = BitVec.ofNat 32 (keptOf (res_main_v109 V) e).val := by
  rw [ref_v116]; exact keepA_edge _ hs e

theorem v108_at (e : Fin 16384) : takeT (res_main_v108 V) (res_main_v116 V) (ix1 e) = wr V e := by
  rw [takeT_at _ _ e _ (v116_at V hs e)]
  have hq : (keptOf (res_main_v109 V) e).val = 32 * (quart e).val + (posOf (res_main_v109 V) e).val := rfl
  exact (score2A_at (res_main_v108 V) (quart e) _ _ hq).symm

include h1

theorem v123_at (e : Fin 16384) : res_main_v123 V (ix1 e) = BitVec.ofNat 32 (quart e).val := by
  rw [ref_v123, takeT_at _ _ e _ (v116_at V hs e)]
  refine (h1 _).trans (congrArg (BitVec.ofNat 32) ?_)
  have := (posOf (res_main_v109 V) e).isLt
  simp only [keptOf]
  omega

omit h1
include h2

theorem v130_at (e : Fin 16384) : res_main_v130 V (ix1 e) = BitVec.ofNat 32 (Dr V T e).val := by
  rw [ref_v130, takeT_at _ _ e _ (v116_at V hs e)]
  exact h2 _

include h1

theorem v164_at (e : Fin 16384) (h : Fin 4) : res_main_v164 V (ix2 e h) = lgS (Dr V T) (sr V) (tr V) e h := by
  rw [ref_v164, leakyA_at]
  unfold lgS
  rw [ref_v163]
  refine congrArg leaky (congrArg₂ (· + ·) ?_ ?_)
  · rw [rowsT_at _ _ e h _ (v123_at V hs h1 e)]; rfl
  · rw [rowsT_at _ _ e h _ (v130_at V T hs h2 e)]; rfl

theorem v168_at (e : Fin 16384) (h : Fin 4) : res_main_v168 V (ix2 e h) = exS (Dr V T) (sr V) (tr V) e h := by
  rw [ref_v168, expA_at]
  exact exK_at (Dr V T) (sr V) (tr V) _ (v164_at V T hs h1 h2) e h

theorem v184_at (e : Fin 16384) (h : Fin 4) : res_main_v184 V (ix2 e h) = alS (Dr V T) (wr V) (sr V) (tr V) e h := by
  rw [ref_v184]
  exact alphaA_at _ (Dr V T) (v130_at V T hs h2) _ (wr V) (sr V) (tr V) _ (v168_at V T hs h1 h2) (v108_at V hs) e h

theorem v217_at (h : Fin 4) (n d : Fin 4096) : res_main_v217 V (ix3 h n d) = attR (Dr V T) (wr V) (sr V) (tr V) h n d := by
  rw [ref_v217]
  exact denseA_at _ _ (Dr V T) (v123_at V hs h1) (v130_at V T hs h2) (wr V) (sr V) (tr V) _ (v184_at V T hs h1 h2) h n d

/-- The reference's attention. -/
theorem ref_att (h : Fin 4) (n d : Fin 4096) : attA (res_main_v217 V) (ix4 0 h n d) = attN (Dr V T) (wr V) (sr V) (tr V) h n d := by
  have hv := v217_at V T hs h1 h2
  generalize res_main_v217 V = x at hv
  pointwise [attA]
  unfold attN
  rw [hv]
  refine congrArg (fun s => Ideal.div (attR (Dr V T) (wr V) (sr V) (tr V) h n d) (max (Ideal.ofBits .f32 814313567#32) s))
    (Finset.sum_congr rfl fun d' _ => hv h n d')

/-- The reference's features. -/
theorem ref_out (n : Fin 4096) (j : Fin 32) :
    outA (res_main_v123 V) (res_main_v130 V) (res_main_v184 V) (res_main_v140 V) (V main_arg20) (ix3 0 n j)
      = outR (Dr V T) (wr V) (sr V) (tr V) (xr V) (br V) n j := by
  have hx : ∀ e h c, rowsX (res_main_v140 V) (res_main_v123 V) (ix3 e h c) = res_main_v140 V (ix3 (quart e) h c) :=
    fun e h c => rowsX_at _ _ e h c _ (v123_at V hs h1 e)
  have hv := v184_at V T hs h1 h2
  unfold outA
  generalize rowsX (res_main_v140 V) (res_main_v123 V) = x at hx
  generalize res_main_v184 V = al at hv
  have hsc := fun h c => scatter48_at (broadcastInDim S4096x4x8 ![] bcast_S_S4096x4x8 (constant S_ .f32 0x00000000#32))
    (broadcastInDim S16384x1 ![0] bcast_S16384_S16384x1_0 (res_main_v130 V))
    (mulf (broadcastInDim S16384x4x8 ![0, 1, 2] bcast_S16384x4x1_S16384x4x8_0_1_2 (broadcastInDim S16384x4x1 ![0, 1] bcast_S16384x4_S16384x4x1_0_1 al)) x)
    (Dr V T) (fun e => (by pointwise [] : _ = res_main_v130 V (ix1 e)).trans (v130_at V T hs h2 e)) n h c
  generalize Host.scatterAdd (F := Ideal) scatter_S4096x4x8_S16384x1_S16384x4x8_12_0_0_1 _ _ _ = y at hsc ⊢
  pointwise []
  unfold outR
  refine congrArg (· + br V j) ?_
  refine (hsc (headOf j) (⟨j.val % 8, by omega⟩ : Fin 8)).trans ?_
  have hz : broadcastInDim S4096x4x8 ![] bcast_S_S4096x4x8 (constant (F := Ideal) S_ .f32 0x00000000#32)
      (ix3 n (headOf j) (⟨j.val % 8, by omega⟩ : Fin 8)) = (0 : EReal) := by pointwise []
  refine (congrArg (fun z : EReal => z + _) hz).trans ((zero_add _).trans ?_)
  · refine Finset.sum_congr rfl fun e _ => ?_
    pointwise []
    rw [hv, hx]
    rfl

end Cert.Gnn

end
-- ==== Proof.Prelude.lean ====
/- The first kernel's arrays: the hidden state it computes is the one the host programs compute, so that its projection is
   theirs. -/
module

public import proofs.«01_k».proof.Proof.Arrays
public import proofs.«01_k».proof.Proof.Extended
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn

open Cert.KernelIdeal Cert.KernelIdeal.Gen Idealize.ShloMosaic Idealize.ShloMosaic.TcCoe Idealize.ShloMosaic.Pointwise
open Idealize.ShloMosaic.Pipeline (Dat)

/-- A variance plus the small constant is positive. -/
theorem var_pos {S : EReal} (h : 0 ≤ S) : 0 < Ideal.div S (Ideal.ofBits .f32 0x42000000#32) + Ideal.ofBits .f32 0x3727C5AC#32 := by
  rw [div_of_pos _ width_pos]
  exact lt_of_lt_of_le eps_ln_pos (le_add_of_nonneg_left (EReal.mul_nonneg h (inv_nonneg' width_pos)))

theorem norm_at (v0 : FVec Ideal S4096x33 .f32) (v2 : FVec Ideal S33x32 .f32) (v5 : FVec Ideal S1x32 .f32) (v11 : FVec Ideal S32x32 .f32)
    (v14 : FVec Ideal S1x32 .f32) (H : FVec Ideal S1x4096x33 .f32) (W1 : FVec Ideal S32x33 .f32) (b1 : FVec Ideal S32 .f32)
    (W2 : FVec Ideal S32x32 .f32) (b2 : FVec Ideal S32 .f32)
    (h0 : ∀ n k, v0 (ix2 n k) = H (ix3 0 n k)) (h2 : ∀ k j, v2 (ix2 k j) = W1 (ix2 j k)) (h5 : ∀ j, v5 (ix2 0 j) = b1 (ix1 j))
    (h11 : ∀ k j, v11 (ix2 k j) = W2 (ix2 j k)) (h14 : ∀ j, v14 (ix2 0 j) = b2 (ix1 j)) (n : Fin 4096) (j : Fin 32) :
    (k0_pay5 (F := Ideal) v0 v2 v5 v11 v14 : FVec Ideal S4096x32 .f32) (ix2 n j)
      = Host.divf (cenA (x2A H W1 b1 W2 b2)) (col3 (Host.sqrt (addf (meanA (mulf (cenA (x2A H W1 b1 W2 b2)) (cenA (x2A H W1 b1 W2 b2))))
    (broadcastInDim S1x4096x1 ![] bcast_S_S1x4096x1 (constant S_ .f32 0x3727C5AC#32))))) (ix3 0 n j) := by
  pointwise [k0_pay5, cenA, x2A, col3, meanA, relu3, pre1, pre2, row3]
  simp only [h0, h2, h5, h11, h14]
  exact mul_rsqrt _ (var_pos (sum_nonneg' _ _ fun _ _ => sq_nonneg' _))

theorem hidden_at (p : FVec Ideal S4096x32 .f32) (v38 v42 : FVec Ideal S1x32 .f32) (v46 : FVec Ideal S32x192 .f32)
    (v49 v53 : FVec Ideal S1x192 .f32) (Q : FVec Ideal S1x4096x32 .f32) (g b : FVec Ideal S32 .f32) (Wih : FVec Ideal S192x32 .f32)
    (bih bhh : FVec Ideal S192 .f32) (hp : ∀ n j, p (ix2 n j) = Q (ix3 0 n j)) (h38 : ∀ j, v38 (ix2 0 j) = g (ix1 j))
    (h42 : ∀ j, v42 (ix2 0 j) = b (ix1 j)) (h46 : ∀ k j, v46 (ix2 k j) = Wih (ix2 j k)) (h49 : ∀ j, v49 (ix2 0 j) = bih (ix1 j))
    (h53 : ∀ j, v53 (ix2 0 j) = bhh (ix1 j)) :
    (k0_pay6 (F := Ideal) p v38 v42 v46 v49 v53 : FVec Ideal S4096x64 .f32)
      = hA (giA (shapeCast _ (addf (mulf Q (row3 g)) (row3 b)) shapeCasts_S1x4096x32_S4096x32) Wih bih) (ghA bhh) := by
  funext i
  idx_vars i
  pointwise [k0_pay6, hA, zA, nA, sigA, splatH, giA, ghA, row3]
  simp only [hp, h38, h42, h46, h49, h53]
  rfl

/-- The projection of the hidden state, at an index. -/
theorem pay2_at (h : FVec Ideal S4096x64 .f32) (W : FVec Ideal S64x32 .f32) (n : Fin 4096) (j : Fin 32) :
    (k0_pay2 (F := Ideal) h W : FVec Ideal S4096x32 .f32) (ix2 n j) = ∑ k : Fin 64, h (ix2 n k) * W (ix2 k j) := by
  pointwise [k0_pay2]

theorem pay3_at (h : FVec Ideal S4096x64 .f32) (W : FVec Ideal S64x32 .f32) (A : FVec Ideal S32x4 .f32) (n : Fin 4096) (q : Fin 4) :
    (k0_pay3 (F := Ideal) h W A : FVec Ideal S4096x4 .f32) (ix2 n q)
      = ∑ x : Fin 32, (∑ k : Fin 64, h (ix2 n k) * W (ix2 k x)) * A (ix2 x q) := by
  pointwise [k0_pay3, k0_pay2]

theorem pay4_at (h : FVec Ideal S4096x64 .f32) (W : FVec Ideal S64x32 .f32) (A : FVec Ideal S32x4 .f32) (n : Fin 4096) (q : Fin 4) :
    (k0_pay4 (F := Ideal) h W A : FVec Ideal S4096x4 .f32) (ix2 n q)
      = ∑ x : Fin 32, (∑ k : Fin 64, h (ix2 n k) * W (ix2 k x)) * A (ix2 x q) := by
  pointwise [k0_pay4, k0_pay2]

end Cert.Gnn

end
-- ==== Proof.Hidden.lean ====
/- The reference's hidden state, from a zero one: its hidden side of the gates is the bias row alone, and the update gate's
   share of the old state is zero. -/
module

public import proofs.«01_k».proof.Proof.RefArrays
public import Idealize.ShloMosaic.Lib.Pointwise

@[expose] public section

set_option maxRecDepth 16384

noncomputable section

namespace Cert.Gnn

open Cert.ReferenceIdeal Cert.ReferenceIdeal.Value Idealize.ShloMosaic Idealize.ShloMosaic.TcCoe Idealize.ShloMosaic.Pointwise

variable (V : Valuation τ sig (Elt Ideal))

theorem ref_v47 : res_main_v47 V = ghA (V main_arg12) := by
  funext j
  idx_vars j
  pointwise [res_main_v47, res_main_v36, ghA]
  simp only [zero_mul, Finset.sum_const_zero, zero_add]

theorem ref_v75 : res_main_v75 V = hA (res_main_v42 V) (ghA (V main_arg12)) := by
  rw [ref_v75_form, ref_v47]
  funext j
  idx_vars j
  pointwise [res_main_v36]
  simp only [mul_zero, add_zero]

end Cert.Gnn

end
-- ==== Proof.Numbers.lean ====
/- The two programs' data in the same numbers: transformed features, attention shares, scores, the kept edges' weights and
   targets. -/
module

public import proofs.«01_k».proof.Proof.Chain
public import proofs.«01_k».proof.Proof.RefResult
public import proofs.«01_k».proof.Proof.Prelude
public import proofs.«01_k».proof.Proof.Hidden

@[expose] public section

set_option maxRecDepth 16384

noncomputable section

namespace Cert.Gnn

open Cert.KernelIdeal Cert.KernelIdeal.Gen Idealize.ShloMosaic Idealize.ShloMosaic.TcCoe Idealize.ShloMosaic.StableHlo
open Idealize.ShloMosaic.Pointwise

/-! ## Features and attention shares -/

/-- A node's transformed features. -/
def xwN (h : FVec Ideal S4096x64 .f32) (W : FVec Ideal S32x64 .f32) (n : Fin 4096) (j : Fin 32) : EReal :=
  ∑ k : Fin 64, h (ix2 n k) * W (ix2 j k)

/-- A head's `c`-th feature. -/
def featOf (q : Fin 4) (c : Fin 8) : Fin 32 := ⟨q.val * 8 + c.val, by omega⟩

/-- A node's attention share in a head. -/
def shN (x : Fin 4096 → Fin 32 → EReal) (a : FVec Ideal S4x8 .f32) (n : Fin 4096) (q : Fin 4) : EReal :=
  ∑ c : Fin 8, x n (featOf q c) * a (ix2 q c)

/-- A sum over features whose terms vanish off one head. -/
theorem sum_feat (f : Fin 32 → EReal) (a : FVec Ideal S4x8 .f32) (q : Fin 4) :
    ∑ x : Fin 32, f x * (if x.val / 8 = q.val then a (ix2 q ⟨x.val % 8, Nat.mod_lt _ (by omega)⟩) else 0)
      = ∑ c : Fin 8, f (featOf q c) * a (ix2 q c) := by
  symm
  simp only [mul_ite, mul_zero]
  rw [← Finset.sum_filter]
  refine Finset.sum_bij (fun c _ => featOf q c) ?_ ?_ ?_ ?_
  · intro c _
    refine Finset.mem_filter.mpr ⟨Finset.mem_univ _, ?_⟩
    show (q.val * 8 + c.val) / 8 = q.val
    omega
  · intro c _ c' _ h
    have := congrArg Fin.val h
    simp only [featOf] at this
    exact Fin.ext (by omega)
  · intro x hx
    have := (Finset.mem_filter.mp hx).2
    exact ⟨⟨x.val % 8, by omega⟩, Finset.mem_univ _, Fin.ext (by show q.val * 8 + x.val % 8 = x.val; omega)⟩
  · intro c _
    have : (⟨(featOf q c).val % 8, Nat.mod_lt _ (by omega)⟩ : Fin 8) = c := Fin.ext (by show (q.val * 8 + c.val) % 8 = c.val; omega)
    rw [this]

section Kernel

variable (h : FVec Ideal S4096x64 .f32) (W : FVec Ideal S64x32 .f32) (Wg : FVec Ideal S32x64 .f32) (a : FVec Ideal S4x8 .f32)
  (A : FVec Ideal S32x4 .f32) (hW : ∀ k j, W (ix2 k j) = Wg (ix2 j k))
  (hA : ∀ x q, A (ix2 x q) = if x.val / 8 = q.val then a (ix2 q ⟨x.val % 8, Nat.mod_lt _ (by omega)⟩) else 0)

include hW

theorem pay2_num (n : Fin 4096) (j : Fin 32) : (k0_pay2 (F := Ideal) h W : FVec Ideal S4096x32 .f32) (ix2 n j) = xwN h Wg n j := by
  rw [pay2_at]
  simp only [hW]
  rfl

include hA

theorem pay3_num (n : Fin 4096) (q : Fin 4) :
    (k0_pay3 (F := Ideal) h W A : FVec Ideal S4096x4 .f32) (ix2 n q) = shN (xwN h Wg) a n q := by
  rw [pay3_at]
  simp only [hW, hA]
  exact sum_feat (xwN h Wg n) a q

theorem pay4_num (n : Fin 4096) (q : Fin 4) :
    (k0_pay4 (F := Ideal) h W A : FVec Ideal S4096x4 .f32) (ix2 n q) = shN (xwN h Wg) a n q := by
  rw [pay4_at]
  simp only [hW, hA]
  exact sum_feat (xwN h Wg n) a q

end Kernel

/-! ## The reference's -/

section Ref

variable (V : Valuation Cert.ReferenceIdeal.τ Cert.ReferenceIdeal.sig (Elt Ideal))

theorem v140_at (n : Fin 4096) (q : Fin 4) (c : Fin 8) :
    (Cert.ReferenceIdeal.Value.res_main_v140 V : FVec Ideal Cert.ReferenceIdeal.S4096x4x8 .f32) (ix3 n q c)
      = xwN (Cert.ReferenceIdeal.Value.res_main_v75 V) (V Cert.ReferenceIdeal.main_arg17) n (featOf q c) := by
  unfold Cert.ReferenceIdeal.Value.res_main_v140 xwN
  generalize Cert.ReferenceIdeal.Value.res_main_v75 V = h
  pointwise []
  rfl

theorem xr_eq : xr V = xwN (Cert.ReferenceIdeal.Value.res_main_v75 V) (V Cert.ReferenceIdeal.main_arg17) := by
  funext n j
  refine (v140_at V n (headOf j) ⟨j.val % 8, by omega⟩).trans (congrArg _ (Fin.ext ?_))
  show j.val / 8 * 8 + j.val % 8 = j.val
  omega

theorem sr_eq : sr V = shN (xwN (Cert.ReferenceIdeal.Value.res_main_v75 V) (V Cert.ReferenceIdeal.main_arg17)) (V Cert.ReferenceIdeal.main_arg18) := by
  funext n q
  refine (shareA_at _ _ n q).trans (Finset.sum_congr rfl fun c _ => ?_)
  rw [v140_at]

theorem tr_eq : tr V = shN (xwN (Cert.ReferenceIdeal.Value.res_main_v75 V) (V Cert.ReferenceIdeal.main_arg17)) (V Cert.ReferenceIdeal.main_arg19) := by
  funext n q
  refine (shareA_at _ _ n q).trans (Finset.sum_congr rfl fun c _ => ?_)
  rw [v140_at]

end Ref

/-! ## Scores -/

/-- Rows at a node's own edges are the node's row repeated. -/
theorem rows_rep (h : FVec Ideal S4096x64 .f32) (i : IVec S131072 32) (hi : ∀ e : Fin 131072, i (ix1 e) = BitVec.ofNat 32 (e.val / 32)) :
    rowsA h i = repA h := by
  funext y
  idx_vars y
  have hw : wrapE 4096#32 i (ix2 y0 0) = BitVec.ofNat 32 (y0.val / 32) := by
    pointwise [wrapE]
    rw [hi]
    exact Routing.wrap_of_lt _ _ (by simp only [BitVec.toNat_ofNat]; omega)
  have hr : repA h (ix2 y0 y1) = h (ix2 ⟨y0.val / 32, by omega⟩ y1) := by
    pointwise [repA]
  rw [hr]
  unfold rowsA
  rw [ix2_eq_valueIdx, ix2_eq_valueIdx]
  exact Routing.gather_row gather_S4096x64_S131072x1_S131072x64_1_0_n_n_0_1_164 rfl rfl rfl rfl rfl h _ y0 y1 ⟨y0.val / 32, by omega⟩
    (by rw [← ix2_eq_valueIdx]; exact hw) (by norm_num)

/-- A score is a logistic value, so not −∞. -/
theorem score_bot (x : FVec Ideal S131072x64 .f32) (W : FVec Ideal S1x64 .f32) (b : FVec Ideal S1 .f32) (n : Fin 4096) (p : Fin 32) :
    ⊥ < row (score2A (scOutA x W b)) n p := by
  unfold row
  pointwise [score2A, scOutA]
  generalize -(∑ k : Fin 64, x (ix2 ⟨n.val * 32 + p.val, _⟩ k) * W (ix2 0 k) + b (ix1 0)) = y
  change EReal at y
  have hp : (0 : EReal) < 1 + Ideal.exp y := lt_of_lt_of_le zero_lt_one (le_add_of_nonneg_right (exp_nonneg' _))
  rw [div_of_pos _ hp]
  exact lt_of_lt_of_le EReal.bot_lt_zero (EReal.mul_nonneg zero_le_one (inv_nonneg' hp))

/-! ## The kept edges -/

theorem weight_col (s : FVec Ideal S4096x32 .f32) (hs : ∀ n p, ⊥ < row s n p) (e : Fin 16384) :
    (shapeCast S16384x1 (topWA s) shapeCasts_S4096x4_S16384x1 : FVec Ideal S16384x1 .f32) (ix2 e 0) = row s (quart e) (posOf s e) := by
  have h := topWA_at s (quart e) (hs _) ⟨e.val % 4, by omega⟩
  generalize topWA s = t at h
  pointwise []
  exact h

section Target

variable (d : IVec S131072 32) (T : Fin 131072 → Fin 4096) (hT : ∀ e, d (ix1 e) = BitVec.ofNat 32 (T e).val)
  (s : FVec Ideal S4096x32 .f32)
include hT

theorem target_at (e : Fin 16384) :
    topDA (shapeCast S4096x32 d shapeCasts_S131072_S4096x32) s (ix2 (quart e) ⟨e.val % 4, by omega⟩) = BitVec.ofNat 32 (T (keptOf s e)).val := by
  rw [topDA_at, ← hT]
  pointwise []
  exact congrArg (fun i => d (ix1 i)) (Fin.ext (by show (quart e).val * 32 + _ = 32 * (quart e).val + _; simp only [posOf]; omega))

theorem target_col (e : Fin 16384) :
    (shapeCast S16384x1 (topDA (shapeCast S4096x32 d shapeCasts_S131072_S4096x32) s) shapeCasts_S4096x4_S16384x1 : IVec S16384x1 32) (ix2 e 0)
      = BitVec.ofNat 32 (T (keptOf s e)).val := by
  have h := target_at d T hT s e
  generalize topDA (shapeCast S4096x32 d shapeCasts_S131072_S4096x32) s = t at h
  rw [← h]
  pointwise []
  rfl

theorem target_row (e : Fin 16384) :
    (shapeCast S1x16384 (topDA (shapeCast S4096x32 d shapeCasts_S131072_S4096x32) s) shapeCasts_S4096x4_S1x16384 : IVec S1x16384 32) (ix2 0 e)
      = BitVec.ofNat 32 (T (keptOf s e)).val := by
  have h := target_at d T hT s e
  generalize topDA (shapeCast S4096x32 d shapeCasts_S131072_S4096x32) s = t at h
  rw [← h]
  pointwise []
  rfl

theorem target_node (n : Fin 4096) (k : Fin 4) :
    topDA (shapeCast S4096x32 d shapeCasts_S131072_S4096x32) s (ix2 n k) = BitVec.ofNat 32 (T (keptOf s (edgeOf n k))).val := by
  rw [← target_at d T hT s (edgeOf n k), quart_edgeOf]
  refine congrArg (fun k => topDA (shapeCast S4096x32 d shapeCasts_S131072_S4096x32) s (ix2 n k)) (Fin.ext ?_)
  show k.val = (4 * n.val + k.val) % 4
  omega

end Target

end Cert.Gnn

end
-- ==== Proof.PreludeRun.lean ====
/- What the first kernel, of one grid point, leaves in its result arrays. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn

open Cert.KernelIdeal Cert.KernelIdeal.Gen Idealize.ShloMosaic Idealize.ShloMosaic.TcCoe Idealize.ShloMosaic.Pointwise
open Idealize.ShloMosaic.Pipeline (Dat)

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_12.index t = ![0, 0]
    ∧ win0_13.index t = ![0, 0] ∧ win0_14.index t = ![0, 0] ∧ win0_18.index t = ![0, 0] ∧ win0_19.index t = ![0, 0]
    ∧ win0_20.index t = ![0, 0] := (by decide +kernel : ∀ t : Fin grid0.N, _)

/-- The first kernel's hidden state, from the arrays it is given. -/
def hK (c : Dev nD) : FVec Ideal S4096x64 .f32 :=
  k0_pay6 (F := Ideal) (k0_pay5 (F := Ideal) (V c main_v0) (V c main_v37) (V c main_v38) (V c main_v39) (V c main_v40))
    (V c main_v41) (V c main_v42) (V c main_v43) (V c main_v44) (V c main_v45)

theorem pay9_eq (x0 : Vec Ideal S4096x33 .f32) (x1 : Vec Ideal S33x32 .f32) (x2 : Vec Ideal S1x32 .f32) (x3 : Vec Ideal S32x32 .f32) (x4 : Vec Ideal S1x32 .f32) (x5 : Vec Ideal S1x32 .f32) (x6 : Vec Ideal S1x32 .f32) (x7 : Vec Ideal S32x192 .f32) (x8 : Vec Ideal S1x192 .f32) (x9 : Vec Ideal S1x192 .f32) (x10 : Vec Ideal S64x64 .f32) (x11 : Vec Ideal S64x64 .f32) (x12 : Vec Ideal S64x32 .f32) (x13 : Vec Ideal S32x4 .f32) (x14 : Vec Ideal S32x4 .f32) :
    k0_pay9 (F := Ideal) x0 x1 x2 x3 x4 x5 x6 x7 x8 x9 x10 x11 x12 x13 x14
      = k0_pay6 (F := Ideal) (k0_pay5 (F := Ideal) x0 x1 x2 x3 x4) x5 x6 x7 x8 x9 := by
  unfold k0_pay9 k0_pay8
  frame_out

/-- The one grid point's blocks are the whole arrays. -/
theorem blocks (c : Dev nD) :
    (show Vec Ideal S4096x33 .f32 from iblk0 V c 0 t0_0) = V c main_v0 ∧
    (show Vec Ideal S33x32 .f32 from iblk0 V c 1 t0_0) = V c main_v37 ∧
    (show Vec Ideal S1x32 .f32 from iblk0 V c 2 t0_0) = V c main_v38 ∧
    (show Vec Ideal S32x32 .f32 from iblk0 V c 3 t0_0) = V c main_v39 ∧
    (show Vec Ideal S1x32 .f32 from iblk0 V c 4 t0_0) = V c main_v40 ∧
    (show Vec Ideal S1x32 .f32 from iblk0 V c 5 t0_0) = V c main_v41 ∧
    (show Vec Ideal S1x32 .f32 from iblk0 V c 6 t0_0) = V c main_v42 ∧
    (show Vec Ideal S32x192 .f32 from iblk0 V c 7 t0_0) = V c main_v43 ∧
    (show Vec Ideal S1x192 .f32 from iblk0 V c 8 t0_0) = V c main_v44 ∧
    (show Vec Ideal S1x192 .f32 from iblk0 V c 9 t0_0) = V c main_v45 := by
  refine ⟨?_, ?_, ?_, ?_, ?_, ?_, ?_, ?_, ?_, ?_⟩
  all_goals
    funext i
    idx_vars i
    blk_point [iblk0, idx0 t0_0]

theorem hK_eq (c : Dev nD) :
    k0_pay9 (F := Ideal) (iblk0 V c 0 t0_0) (iblk0 V c 1 t0_0) (iblk0 V c 2 t0_0) (iblk0 V c 3 t0_0) (iblk0 V c 4 t0_0)
      (iblk0 V c 5 t0_0) (iblk0 V c 6 t0_0) (iblk0 V c 7 t0_0) (iblk0 V c 8 t0_0) (iblk0 V c 9 t0_0) (iblk0 V c 10 t0_0)
      (iblk0 V c 11 t0_0) (iblk0 V c 12 t0_0) (iblk0 V c 13 t0_0) (iblk0 V c 14 t0_0) = hK V c := by
  obtain ⟨h0, h1, h2, h3, h4, h5, h6, h7, h8, h9⟩ := blocks V c
  rw [pay9_eq]
  unfold hK
  rw [← h0, ← h1, ← h2, ← h3, ← h4, ← h5, ← h6, ← h7, ← h8, ← h9]

theorem final0_18 (c : Dev nD) : (dat0 V c).arrAt 18 cfg0.N = k0_pay2 (F := Ideal) (hK V c) (V c main_v50) := by
  refine (dat0 V c).arrAt_eq_of_after_last 18 t0_0 (by decide +kernel) _ fun j => ?_
  blk_simp
  rw [after0_18]; frame_out
  rw [hK_eq]
  blk_point [iblk0, idx0 t0_0]

theorem final0_19 (c : Dev nD) : (dat0 V c).arrAt 19 cfg0.N = k0_pay3 (F := Ideal) (hK V c) (V c main_v50) (V c main_v20) := by
  refine (dat0 V c).arrAt_eq_of_after_last 19 t0_0 (by decide +kernel) _ fun j => ?_
  blk_simp
  rw [after0_19]; frame_out
  rw [hK_eq]
  blk_point [iblk0, idx0 t0_0]

theorem final0_20 (c : Dev nD) : (dat0 V c).arrAt 20 cfg0.N = k0_pay4 (F := Ideal) (hK V c) (V c main_v50) (V c main_v36) := by
  refine (dat0 V c).arrAt_eq_of_after_last 20 t0_0 (by decide +kernel) _ fun j => ?_
  blk_simp
  rw [after0_20]; frame_out
  rw [hK_eq]
  blk_point [iblk0, idx0 t0_0]

end Cert.Gnn

end
-- ==== Proof.KernelResult.lean ====
/- The kernel program's two results, at an index, in the numbers of `Gat`. -/
module

public import proofs.«01_k».proof.Proof.Numbers
public import proofs.«01_k».proof.Proof.PreludeRun
public import proofs.«01_k».proof.Proof.Regions
public import proofs.«01_k».proof.Proof.EdgeNorm

@[expose] public section

set_option maxRecDepth 16384

noncomputable section

namespace Cert.Gnn

open Cert.KernelIdeal Cert.KernelIdeal.Gen Idealize.ShloMosaic Idealize.ShloMosaic.TcCoe Idealize.ShloMosaic.StableHlo
open Idealize.ShloMosaic.Pointwise

variable (m : (ℓ : Loc nD τ sig) → Buf (Elt Ideal) ℓ) (ρ : Dev nD → PrngReg) (c : Dev nD)

/-! ## What the first kernel is given, and its hidden state -/

theorem in_v0 : W3 m ρ c main_v0 = shapeCast S4096x33 (arg m c main_arg0 : FVec Ideal S1x4096x33 .f32) shapeCasts_S1x4096x33_S4096x33 := by
  rw [W3_of m ρ c main_v0 (by decide +kernel), W2_of m ρ c main_v0 (by decide +kernel)]
  exact line_v0 (W0 m ρ c)

theorem in_heads : W2 m ρ c main_v4 = headA := by
  show after hostOps0_1 (W1 m ρ c) main_v4 = _
  rw [line_v4, show W1 m ρ c main_v3 = _ from line_v3 (W0 m ρ c), show W1 m ρ c main_c = _ from line_c (W0 m ρ c)]
  rfl

theorem in_v20 : W3 m ρ c main_v20 = spreadA zero4 headA (arg m c main_arg18) := by
  show after hostOps0_2 (W2 m ρ c) main_v20 = _
  rw [line_v20, in_heads, W2_of m ρ c main_v1 (by decide +kernel), show W1 m ρ c main_v1 = _ from line_v1 (W0 m ρ c),
    W2_args m ρ c main_arg18 (argMem _ rfl)]

theorem in_v36 : W3 m ρ c main_v36 = spreadA zero4 headA (arg m c main_arg19) := by
  show after hostOps0_2 (W2 m ρ c) main_v36 = _
  rw [line_v36, in_heads, W2_of m ρ c main_v2 (by decide +kernel), show W1 m ρ c main_v2 = _ from line_v2 (W0 m ρ c),
    W2_args m ρ c main_arg19 (argMem _ rfl)]

theorem in_v50 (k : Fin 64) (j : Fin 32) : (W3 m ρ c main_v50 : FVec Ideal S64x32 .f32) (ix2 k j) = (arg m c main_arg17 : FVec Ideal S32x64 .f32) (ix2 j k) := by
  rw [show W3 m ρ c main_v50 = _ from line_v50 (W2 m ρ c), W2_args m ρ c main_arg17 (argMem _ rfl)]
  pointwise []

/-! Biases as rows and transposed weights, at an index. -/

theorem row32_at (x : FVec Ideal S32 .f32) (j : Fin 32) : broadcastInDim S1x32 ![1] bcast_S32_S1x32_1 x (ix2 0 j) = x (ix1 j) := by
  pointwise []
theorem row192_at (x : FVec Ideal S192 .f32) (j : Fin 192) : broadcastInDim S1x192 ![1] bcast_S192_S1x192_1 x (ix2 0 j) = x (ix1 j) := by
  pointwise []
theorem mat33_at (x : FVec Ideal S32x33 .f32) (k : Fin 33) (j : Fin 32) :
    transpose S33x32 [1, 0] x transposes_S32x33_S33x32_1_0 (ix2 k j) = x (ix2 j k) := by
  pointwise []
theorem mat32_at (x : FVec Ideal S32x32 .f32) (k : Fin 32) (j : Fin 32) :
    transpose S32x32 [1, 0] x transposes_S32x32_S32x32_1_0 (ix2 k j) = x (ix2 j k) := by
  pointwise []
theorem mat192_at (x : FVec Ideal S192x32 .f32) (k : Fin 32) (j : Fin 192) :
    transpose S32x192 [1, 0] x transposes_S192x32_S32x192_1_0 (ix2 k j) = x (ix2 j k) := by
  pointwise []
theorem flat_at (x : FVec Ideal S1x4096x33 .f32) (n : Fin 4096) (k : Fin 33) :
    shapeCast S4096x33 x shapeCasts_S1x4096x33_S4096x33 (ix2 n k) = x (ix3 0 n k) := by
  pointwise []

set_option maxHeartbeats 2000000 in
/-- The first kernel's hidden state is the host's. -/
theorem hK_hid : hK (V3 m ρ) c = hidA m c := by
  unfold hK
  have e0 := in_v0 m ρ c
  have e37 : W3 m ρ c main_v37 = _ := line_v37 (W2 m ρ c)
  have e38 : W3 m ρ c main_v38 = _ := line_v38 (W2 m ρ c)
  have e39 : W3 m ρ c main_v39 = _ := line_v39 (W2 m ρ c)
  have e40 : W3 m ρ c main_v40 = _ := line_v40 (W2 m ρ c)
  have e41 : W3 m ρ c main_v41 = _ := line_v41 (W2 m ρ c)
  have e42 : W3 m ρ c main_v42 = _ := line_v42 (W2 m ρ c)
  have e43 : W3 m ρ c main_v43 = _ := line_v43 (W2 m ρ c)
  have e44 : W3 m ρ c main_v44 = _ := line_v44 (W2 m ρ c)
  have e45 : W3 m ρ c main_v45 = _ := line_v45 (W2 m ρ c)
  rw [W2_args m ρ c main_arg3 (argMem _ rfl)] at e37
  rw [W2_args m ρ c main_arg4 (argMem _ rfl)] at e38
  rw [W2_args m ρ c main_arg5 (argMem _ rfl)] at e39
  rw [W2_args m ρ c main_arg6 (argMem _ rfl)] at e40
  rw [W2_args m ρ c main_arg7 (argMem _ rfl)] at e41
  rw [W2_args m ρ c main_arg8 (argMem _ rfl)] at e42
  rw [W2_args m ρ c main_arg9 (argMem _ rfl)] at e43
  rw [W2_args m ρ c main_arg10 (argMem _ rfl)] at e44
  rw [W2_args m ρ c main_arg12 (argMem _ rfl)] at e45
  refine (hidden_at _ _ _ _ _ _ _ (arg m c main_arg7) (arg m c main_arg8) (arg m c main_arg9) (arg m c main_arg10) (arg m c main_arg12)
    (norm_at _ _ _ _ _ (arg m c main_arg0) (arg m c main_arg3) (arg m c main_arg4) (arg m c main_arg5) (arg m c main_arg6) ?_ ?_ ?_ ?_ ?_)
    ?_ ?_ ?_ ?_ ?_).trans rfl
  · exact fun n k => (congrFun e0 (ix2 n k)).trans (flat_at _ n k)
  · exact fun k j => (congrFun e37 (ix2 k j)).trans (mat33_at _ k j)
  · exact fun j => (congrFun e38 (ix2 0 j)).trans (row32_at _ j)
  · exact fun k j => (congrFun e39 (ix2 k j)).trans (mat32_at _ k j)
  · exact fun j => (congrFun e40 (ix2 0 j)).trans (row32_at _ j)
  · exact fun j => (congrFun e41 (ix2 0 j)).trans (row32_at _ j)
  · exact fun j => (congrFun e42 (ix2 0 j)).trans (row32_at _ j)
  · exact fun k j => (congrFun e43 (ix2 k j)).trans (mat192_at _ k j)
  · exact fun j => (congrFun e44 (ix2 0 j)).trans (row192_at _ j)
  · exact fun j => (congrFun e45 (ix2 0 j)).trans (row192_at _ j)

/-! ## The first kernel's results in numbers -/

/-- A node's transformed features. -/
def xk : Fin 4096 → Fin 32 → EReal := xwN (hidA m c) (arg m c main_arg17)
/-- A node's share as a source. -/
def sk : Fin 4096 → Fin 4 → EReal := shN (xk m c) (arg m c main_arg18)
/-- A node's share as a target. -/
def tk : Fin 4096 → Fin 4 → EReal := shN (xk m c) (arg m c main_arg19)
/-- The bias. -/
def bk : Fin 32 → EReal := fun j => (arg m c main_arg20 : FVec Ideal S32 .f32) (ix1 j)

theorem out_x (n : Fin 4096) (j : Fin 32) : (W34 m ρ c main_v51_3 : FVec Ideal S4096x32 .f32) (ix2 n j) = xk m c n j := by
  rw [keepAll m ρ c main_v51_3 rfl, show W4 m ρ c main_v51_3 = _ from (W4_arr m ρ c 18).trans (final0_18 (V3 m ρ) c), hK_hid]
  exact pay2_num _ _ _ (in_v50 m ρ c) n j

theorem out_s (n : Fin 4096) (q : Fin 4) : (W34 m ρ c main_v51_4 : FVec Ideal S4096x4 .f32) (ix2 n q) = sk m c n q := by
  rw [keepAll m ρ c main_v51_4 rfl, show W4 m ρ c main_v51_4 = _ from (W4_arr m ρ c 19).trans (final0_19 (V3 m ρ) c), hK_hid]
  exact pay3_num _ _ _ (arg m c main_arg18) _ (in_v50 m ρ c)
    (fun x q => (congrFun (in_v20 m ρ c) (ix2 x q)).trans (spread_at (arg m c main_arg18) x q)) n q

theorem out_t (n : Fin 4096) (q : Fin 4) : (W34 m ρ c main_v51_5 : FVec Ideal S4096x4 .f32) (ix2 n q) = tk m c n q := by
  rw [keepAll m ρ c main_v51_5 rfl, show W4 m ρ c main_v51_5 = _ from (W4_arr m ρ c 20).trans (final0_20 (V3 m ρ) c), hK_hid]
  exact pay4_num _ _ _ (arg m c main_arg19) _ (in_v50 m ρ c)
    (fun x q => (congrFun (in_v36 m ρ c) (ix2 x q)).trans (spread_at (arg m c main_arg19) x q)) n q

end Cert.Gnn

end
-- ==== Proof.KernelOut.lean ====
/- The kernel program's two result arrays at the end of its run, at an index, in the numbers of `Gat`. -/
module

public import proofs.«01_k».proof.Proof.KernelResult

@[expose] public section

set_option maxRecDepth 16384

noncomputable section

namespace Cert.Gnn

open Cert.KernelIdeal Cert.KernelIdeal.Gen Idealize.ShloMosaic Idealize.ShloMosaic.TcCoe Idealize.ShloMosaic.StableHlo
open Idealize.ShloMosaic.Pointwise

variable (m : (ℓ : Loc nD τ sig) → Buf (Elt Ideal) ℓ) (ρ : Dev nD → PrngReg) (c : Dev nD)

/-! ## The edge arrays -/

theorem edge_cols :
    W35 m ρ c main_v207 = shapeCast S16384x1 (topDA (dstA m c) (scoA m c)) shapeCasts_S4096x4_S16384x1
    ∧ W35 m ρ c main_v208 = shapeCast S1x16384 (topDA (dstA m c) (scoA m c)) shapeCasts_S4096x4_S1x16384
    ∧ W35 m ρ c main_v209 = shapeCast S16384x1 (topWA (scoA m c)) shapeCasts_S4096x4_S16384x1
    ∧ W35 m ρ c main_v202 = topDA (dstA m c) (scoA m c) := by
  obtain ⟨hF, hI⟩ := end_cat m ρ c
  refine ⟨?_, ?_, ?_, ?_⟩
  · exact (line_v207 (W34 m ρ c)).trans (by rw [hI])
  · exact (line_v208 (W34 m ρ c)).trans (by rw [hI])
  · exact (line_v209 (W34 m ρ c)).trans (by rw [hF])
  · exact (line_v202 (W34 m ρ c)).trans hI

theorem edge_v204 : W35 m ρ c main_v204 = rep4 (W34 m ρ c main_v51_4) := line_v204 (W34 m ρ c)
theorem edge_v206 : W35 m ρ c main_v206 = rep32 (W34 m ρ c main_v51_3) := line_v206 (W34 m ρ c)
theorem edge_v217 : W35 m ρ c main_v217 = exp8A := line_v217 (W34 m ρ c)
theorem edge_v51_5 : W35 m ρ c main_v51_5 = W34 m ρ c main_v51_5 := W35_of m ρ c main_v51_5 (by decide +kernel)

/-! ## What each later kernel leaves, from the edge arrays -/

theorem at_v218 : W36 m ρ c main_v218 = logK (W35 m ρ c main_v207) (W35 m ρ c main_v204) (W35 m ρ c main_v51_5) :=
  (W36_arr m ρ c 3).trans (final1_3 (V35 m ρ) c)

/-- An array the second kernel is not to write is as it found it. -/
theorem keepL (r : Ref sig .tc) (h : ∀ w : Fin cfg1.W, Pipeline.arrRef spec1 w = r → (cfg1.win w).isOut = false) :
    W36 m ρ c (Proc.devRef .tc r) = W35 m ρ c (Proc.devRef .tc r) := W36_of m ρ c r h

theorem at_v219_0 : W37 m ρ c main_v219_0 = exK (W36 m ρ c main_v218) := (W37_arr m ρ c 4).trans (final2_4 (V36 m ρ) c)

theorem at_v219_1 : W37 m ρ c main_v219_1 = msgK (W36 m ρ c main_v218) (W35 m ρ c main_v209) (W35 m ρ c main_v206) (W35 m ρ c main_v217) := by
  rw [show W37 m ρ c main_v219_1 = _ from (W37_arr m ρ c 5).trans (final2_5 (V36 m ρ) c)]
  rw [show V36 m ρ c main_v209 = _ from keepL m ρ c main_v209 (by decide +kernel),
    show V36 m ρ c main_v206 = _ from keepL m ρ c main_v206 (by decide +kernel),
    show V36 m ρ c main_v217 = _ from keepL m ρ c main_v217 (by decide +kernel)]

/-- An array that neither the second and third kernels nor the reshape after them write is as found. -/
theorem keepM (r : Ref sig .tc) (h1 : ∀ w : Fin cfg1.W, Pipeline.arrRef spec1 w = r → (cfg1.win w).isOut = false)
    (h2 : ∀ w : Fin cfg2.W, Pipeline.arrRef spec2 w = r → (cfg2.win w).isOut = false) (h3 : r ∉ hostOps3_W) :
    W38 m ρ c (Proc.devRef .tc r) = W35 m ρ c (Proc.devRef .tc r) := by
  rw [W38_of m ρ c r h3, W37_of m ρ c r h2, W36_of m ρ c r h1]

theorem at_v220 : W38 m ρ c main_v220 = shapeCast S1x32 (arg m c main_arg20 : FVec Ideal S32 .f32) shapeCasts_S32_S1x32 := by
  rw [show W38 m ρ c main_v220 = _ from line_v220 (W37 m ρ c), W37_args m ρ c main_arg20 (argMem _ rfl)]

theorem at_v221_0 : W39 m ρ c main_v221_0 = denK (W35 m ρ c main_v208) (W37 m ρ c main_v219_0) := by
  rw [show W39 m ρ c main_v221_0 = _ from (W39_arr m ρ c 5).trans (final3_5 (V38 m ρ) c)]
  rw [show V38 m ρ c main_v208 = _ from keepM m ρ c main_v208 (by decide +kernel) (by decide +kernel) (by decide +kernel),
    show V38 m ρ c main_v219_0 = _ from W38_of m ρ c main_v219_0 (by decide +kernel)]

theorem at_v221_1 : W39 m ρ c main_v221_1 = outK (W35 m ρ c main_v208) (W37 m ρ c main_v219_0) (W37 m ρ c main_v219_1)
    (W35 m ρ c main_v217) (shapeCast S1x32 (arg m c main_arg20 : FVec Ideal S32 .f32) shapeCasts_S32_S1x32) := by
  rw [show W39 m ρ c main_v221_1 = _ from (W39_arr m ρ c 6).trans (final3_6 (V38 m ρ) c)]
  rw [show V38 m ρ c main_v208 = _ from keepM m ρ c main_v208 (by decide +kernel) (by decide +kernel) (by decide +kernel),
    show V38 m ρ c main_v217 = _ from keepM m ρ c main_v217 (by decide +kernel) (by decide +kernel) (by decide +kernel),
    show V38 m ρ c main_v219_0 = _ from W38_of m ρ c main_v219_0 (by decide +kernel),
    show V38 m ρ c main_v219_1 = _ from W38_of m ρ c main_v219_1 (by decide +kernel),
    show V38 m ρ c main_v220 = _ from at_v220 m ρ c]

theorem at_v222 : W40 m ρ c main_v222 = anormK (alphaK (W35 m ρ c main_v207) (W37 m ρ c main_v219_0) (W35 m ρ c main_v209) (W39 m ρ c main_v221_0)) := by
  rw [show W40 m ρ c main_v222 = _ from (W40_arr m ρ c 4).trans (final4_4 (V39 m ρ) c)]
  rw [show V39 m ρ c main_v207 = _ from (W39_of m ρ c main_v207 (by decide +kernel)).trans
      (keepM m ρ c main_v207 (by decide +kernel) (by decide +kernel) (by decide +kernel)),
    show V39 m ρ c main_v209 = _ from (W39_of m ρ c main_v209 (by decide +kernel)).trans
      (keepM m ρ c main_v209 (by decide +kernel) (by decide +kernel) (by decide +kernel)),
    show V39 m ρ c main_v219_0 = _ from (W39_of m ρ c main_v219_0 (by decide +kernel)).trans (W38_of m ρ c main_v219_0 (by decide +kernel))]

theorem at_v224 : W42 m ρ c main_v224 = denseK (W35 m ρ c main_v202)
    (shapeCast S4096x16 (W40 m ρ c main_v222 : FVec Ideal S16384x4 .f32) shapeCasts_S16384x4_S4096x16) := by
  rw [show W42 m ρ c main_v224 = _ from (W42_arr m ρ c 2).trans (final5_2 (V41 m ρ) c)]
  rw [show V41 m ρ c main_v202 = _ from ((W41_of m ρ c main_v202 (by decide +kernel)).trans (W40_of m ρ c main_v202 (by decide +kernel))).trans
      ((W39_of m ρ c main_v202 (by decide +kernel)).trans (keepM m ρ c main_v202 (by decide +kernel) (by decide +kernel) (by decide +kernel))),
    show V41 m ρ c main_v223 = _ from line_v223 (W40 m ρ c)]

theorem at_v225 : W43 m ρ c main_v225 =
    broadcastInDim S1x4096x32 ![1, 2] bcast_S4096x32_S1x4096x32_1_2 (W39 m ρ c main_v221_1 : FVec Ideal S4096x32 .f32) := by
  rw [show W43 m ρ c main_v225 = _ from line_v225 (W42 m ρ c), W42_of m ρ c main_v221_1 (by decide +kernel),
    W41_of m ρ c main_v221_1 (by decide +kernel), W40_of m ρ c main_v221_1 (by decide +kernel)]

theorem at_v226 : W43 m ρ c main_v226 =
    broadcastInDim S1x4x4096x4096 ![1, 2, 3] bcast_S4x4096x4096_S1x4x4096x4096_1_2_3 (W42 m ρ c main_v224 : FVec Ideal S4x4096x4096 .f32) :=
  line_v226 (W42 m ρ c)

/-! ## The two results in numbers -/

theorem lead3_at (x : FVec Ideal S4096x32 .f32) (n : Fin 4096) (j : Fin 32) :
    broadcastInDim S1x4096x32 ![1, 2] bcast_S4096x32_S1x4096x32_1_2 x (ix3 0 n j) = x (ix2 n j) := by
  pointwise []

theorem lead4_at (x : FVec Ideal S4x4096x4096 .f32) (h : Fin 4) (n d : Fin 4096) :
    broadcastInDim S1x4x4096x4096 ![1, 2, 3] bcast_S4x4096x4096_S1x4x4096x4096_1_2_3 x (ix4 0 h n d) = x (ix3 h n d) := by
  pointwise []

theorem bias_at (x : FVec Ideal S32 .f32) (j : Fin 32) : shapeCast S1x32 x shapeCasts_S32_S1x32 (ix2 0 j) = x (ix1 j) := by
  pointwise []

/-- Four quadruples in a row of sixteen. -/
theorem fold16_at (x : FVec Ideal S16384x4 .f32) (n : Fin 4096) (k h : Fin 4) (i : Fin 16) (hi : i.val = 4 * k.val + h.val) :
    shapeCast S4096x16 x shapeCasts_S16384x4_S4096x16 (ix2 n i) = x (ix2 (edgeOf n k) h) := by
  pointwise []
  refine congrArg₂ (fun a b => x (ix2 a b)) (Fin.ext ?_) (Fin.ext ?_)
  · show n.val * 4 + i.val / 4 = 4 * n.val + k.val
    omega
  · show i.val % 4 = h.val
    omega

section Final

variable (T : Fin 131072 → Fin 4096)

/-- A kept edge's target. -/
def Dk : Fin 16384 → Fin 4096 := fun e => T (keptOf (scoA m c) e)
/-- A kept edge's weight. -/
def wk : Fin 16384 → EReal := fun e => row (scoA m c) (quart e) (posOf (scoA m c) e)

theorem sco_bot (n : Fin 4096) (p : Fin 32) : ⊥ < row (scoA m c) n p := score_bot _ _ _ n p

variable (hT : ∀ e : Fin 131072, (arg m c main_arg2 : IVec S131072 32) (ix1 e) = BitVec.ofNat 32 (T e).val)

theorem w_at (e : Fin 16384) : (W35 m ρ c main_v209 : FVec Ideal S16384x1 .f32) (ix2 e 0) = wk m c e := by
  rw [(edge_cols m ρ c).2.2.1]
  exact weight_col (scoA m c) (sco_bot m c) e

include hT

theorem d_col (e : Fin 16384) : (W35 m ρ c main_v207 : IVec S16384x1 32) (ix2 e 0) = BitVec.ofNat 32 (Dk m c T e).val := by
  rw [(edge_cols m ρ c).1]
  exact target_col _ T hT (scoA m c) e

theorem d_row (e : Fin 16384) : (W35 m ρ c main_v208 : IVec S1x16384 32) (ix2 0 e) = BitVec.ofNat 32 (Dk m c T e).val := by
  rw [(edge_cols m ρ c).2.1]
  exact target_row _ T hT (scoA m c) e

theorem lg_at (e : Fin 16384) (h : Fin 4) : (W36 m ρ c main_v218 : FVec Ideal S16384x4 .f32) (ix2 e h) = lgS (Dk m c T) (sk m c) (tk m c) e h := by
  rw [at_v218]
  refine logK_at (Dk m c T) (sk m c) (tk m c) _ _ _ (d_col m ρ c T hT) (fun e h => ?_) (fun n h => ?_) e h
  · rw [edge_v204]
    exact (rep4_at _ e h (quart e) rfl).trans (out_s m ρ c (quart e) h)
  · rw [edge_v51_5]
    exact out_t m ρ c n h

theorem ex_at (e : Fin 16384) (h : Fin 4) : (W37 m ρ c main_v219_0 : FVec Ideal S16384x4 .f32) (ix2 e h) = exS (Dk m c T) (sk m c) (tk m c) e h := by
  rw [at_v219_0]
  exact exK_at (Dk m c T) (sk m c) (tk m c) _ (lg_at m ρ c T hT) e h

theorem ker_out (n : Fin 4096) (j : Fin 32) : (W43 m ρ c main_v225 : FVec Ideal S1x4096x32 .f32) (ix3 0 n j)
    = outR (Dk m c T) (wk m c) (sk m c) (tk m c) (xk m c) (bk m c) n j := by
  rw [at_v225, at_v221_1, at_v219_0, at_v219_1]
  refine (lead3_at _ n j).trans ?_
  refine outK_at (Dk m c T) (wk m c) (sk m c) (tk m c) (xk m c) (bk m c) _ _ _ _ _ _ (lg_at m ρ c T hT) (d_row m ρ c T hT) (w_at m ρ c)
    (fun e j => ?_) (fun x j => ?_) (fun j => ?_) n j
  · rw [edge_v206]
    exact (rep32_at _ e j (quart e) rfl).trans (out_x m ρ c (quart e) j)
  · rw [edge_v217]
    exact (exp8_at x j).trans (if_congr (Fin.ext_iff (a := headOf j) (b := x)).symm rfl rfl)
  · exact bias_at _ j

theorem al_at (e : Fin 16384) (h : Fin 4) :
    alphaK (W35 m ρ c main_v207) (W37 m ρ c main_v219_0) (W35 m ρ c main_v209) (W39 m ρ c main_v221_0) (ix2 e h)
      = alS (Dk m c T) (wk m c) (sk m c) (tk m c) e h := by
  refine alphaK_at (Dk m c T) (wk m c) (sk m c) (tk m c) _ _ _ _ (ex_at m ρ c T hT) (fun n h => ?_) (d_col m ρ c T hT) (w_at m ρ c) e h
  rw [at_v221_0]
  exact denK_at (Dk m c T) (sk m c) (tk m c) _ _ (ex_at m ρ c T hT) (d_row m ρ c T hT) n h

theorem ker_att (h : Fin 4) (n d : Fin 4096) : (W43 m ρ c main_v226 : FVec Ideal S1x4x4096x4096 .f32) (ix4 0 h n d)
    = attN (Dk m c T) (wk m c) (sk m c) (tk m c) h n d := by
  rw [at_v226, at_v224]
  refine (lead4_at _ h n d).trans ?_
  rw [attN_eq]
  refine denseK_at (Dk m c T) _ _ (fun e h => (W40 m ρ c main_v222 : FVec Ideal S16384x4 .f32) (ix2 e h)) (fun n k h i hi => fold16_at _ n k h i hi)
    (fun n k => ?_) h n d |>.trans (Finset.sum_congr rfl fun k _ => if_congr Iff.rfl ?_ rfl)
  rotate_left
  · rw [at_v222]
    exact anormK_at (Dk m c T) (wk m c) (sk m c) (tk m c) _ (al_at m ρ c T hT) n k h
  · rw [(edge_cols m ρ c).2.2.2]
    exact target_node _ T hT (scoA m c) n k

end Final

end Cert.Gnn

end
-- ==== Proof.Agree.lean ====
/- Under the same arguments the two programs' numbers are the same: hidden state, scores, kept edges and their weights. -/
module

public import proofs.«01_k».proof.Proof.KernelOut
public import proofs.«01_k».proof.Proof.RefResult

@[expose] public section

set_option maxRecDepth 16384

noncomputable section

namespace Cert.Gnn

open Idealize.ShloMosaic Idealize.ShloMosaic.TcCoe Idealize.ShloMosaic.Pointwise
open Cert.ReferenceIdeal.Value (res_main_v75 res_main_v109 res_main_v123 res_main_v130 res_main_v140 res_main_v184 res_main_v217)

/-- A contents map of the reference holds the kernel program's arguments (the hidden side's matrix meets a zero state). -/
def SameArgs (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) : Prop :=
  (V Cert.ReferenceIdeal.main_arg0 : FVec Ideal Cert.KernelIdeal.S1x4096x33 .f32) = arg m c Cert.KernelIdeal.main_arg0
  ∧ (V Cert.ReferenceIdeal.main_arg1 : IVec Cert.KernelIdeal.S131072 32) = arg m c Cert.KernelIdeal.main_arg1
  ∧ (V Cert.ReferenceIdeal.main_arg2 : IVec Cert.KernelIdeal.S131072 32) = arg m c Cert.KernelIdeal.main_arg2
  ∧ (V Cert.ReferenceIdeal.main_arg3 : FVec Ideal Cert.KernelIdeal.S32x33 .f32) = arg m c Cert.KernelIdeal.main_arg3
  ∧ (V Cert.ReferenceIdeal.main_arg4 : FVec Ideal Cert.KernelIdeal.S32 .f32) = arg m c Cert.KernelIdeal.main_arg4
  ∧ (V Cert.ReferenceIdeal.main_arg5 : FVec Ideal Cert.KernelIdeal.S32x32 .f32) = arg m c Cert.KernelIdeal.main_arg5
  ∧ (V Cert.ReferenceIdeal.main_arg6 : FVec Ideal Cert.KernelIdeal.S32 .f32) = arg m c Cert.KernelIdeal.main_arg6
  ∧ (V Cert.ReferenceIdeal.main_arg7 : FVec Ideal Cert.KernelIdeal.S32 .f32) = arg m c Cert.KernelIdeal.main_arg7
  ∧ (V Cert.ReferenceIdeal.main_arg8 : FVec Ideal Cert.KernelIdeal.S32 .f32) = arg m c Cert.KernelIdeal.main_arg8
  ∧ (V Cert.ReferenceIdeal.main_arg9 : FVec Ideal Cert.KernelIdeal.S192x32 .f32) = arg m c Cert.KernelIdeal.main_arg9
  ∧ (V Cert.ReferenceIdeal.main_arg10 : FVec Ideal Cert.KernelIdeal.S192 .f32) = arg m c Cert.KernelIdeal.main_arg10
  ∧ (V Cert.ReferenceIdeal.main_arg12 : FVec Ideal Cert.KernelIdeal.S192 .f32) = arg m c Cert.KernelIdeal.main_arg12
  ∧ (V Cert.ReferenceIdeal.main_arg13 : FVec Ideal Cert.KernelIdeal.S64x128 .f32) = arg m c Cert.KernelIdeal.main_arg13
  ∧ (V Cert.ReferenceIdeal.main_arg14 : FVec Ideal Cert.KernelIdeal.S64 .f32) = arg m c Cert.KernelIdeal.main_arg14
  ∧ (V Cert.ReferenceIdeal.main_arg15 : FVec Ideal Cert.KernelIdeal.S1x64 .f32) = arg m c Cert.KernelIdeal.main_arg15
  ∧ (V Cert.ReferenceIdeal.main_arg16 : FVec Ideal Cert.KernelIdeal.S1 .f32) = arg m c Cert.KernelIdeal.main_arg16
  ∧ (V Cert.ReferenceIdeal.main_arg17 : FVec Ideal Cert.KernelIdeal.S32x64 .f32) = arg m c Cert.KernelIdeal.main_arg17
  ∧ (V Cert.ReferenceIdeal.main_arg18 : FVec Ideal Cert.KernelIdeal.S4x8 .f32) = arg m c Cert.KernelIdeal.main_arg18
  ∧ (V Cert.ReferenceIdeal.main_arg19 : FVec Ideal Cert.KernelIdeal.S4x8 .f32) = arg m c Cert.KernelIdeal.main_arg19
  ∧ (V Cert.ReferenceIdeal.main_arg20 : FVec Ideal Cert.KernelIdeal.S32 .f32) = arg m c Cert.KernelIdeal.main_arg20

section Agree

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : Valuation Cert.ReferenceIdeal.τ Cert.ReferenceIdeal.sig (Elt Ideal)) (hV : SameArgs m c V)

include hV

theorem hid_eq : res_main_v75 V = hidA m c := by
  obtain ⟨a0, a1, a2, a3, a4, a5, a6, a7, a8, a9, a10, a12, a13, a14, a15, a16, a17, a18, a19, a20⟩ := hV
  rw [ref_v75, ref_v42, ref_v11, a0, a3, a4, a5, a6, a7, a8, a9, a10, a12]
  rfl

theorem x_eq : xr V = xk m c := by
  have hW := hV
  obtain ⟨a0, a1, a2, a3, a4, a5, a6, a7, a8, a9, a10, a12, a13, a14, a15, a16, a17, a18, a19, a20⟩ := hW
  rw [xr_eq, hid_eq m c V hV, a17]
  rfl

theorem s_eq : sr V = sk m c := by
  have hW := hV
  obtain ⟨a0, a1, a2, a3, a4, a5, a6, a7, a8, a9, a10, a12, a13, a14, a15, a16, a17, a18, a19, a20⟩ := hW
  rw [sr_eq, hid_eq m c V hV, a17, a18]
  rfl

theorem t_eq : tr V = tk m c := by
  have hW := hV
  obtain ⟨a0, a1, a2, a3, a4, a5, a6, a7, a8, a9, a10, a12, a13, a14, a15, a16, a17, a18, a19, a20⟩ := hW
  rw [tr_eq, hid_eq m c V hV, a17, a19]
  rfl

theorem b_eq : br V = bk m c := by
  obtain ⟨a0, a1, a2, a3, a4, a5, a6, a7, a8, a9, a10, a12, a13, a14, a15, a16, a17, a18, a19, a20⟩ := hV
  unfold br bk
  rw [a20]

variable (hsrc : ∀ e : Fin 131072, (arg m c Cert.KernelIdeal.main_arg1 : IVec Cert.KernelIdeal.S131072 32) (ix1 e) = BitVec.ofNat 32 (e.val / 32))

include hsrc

theorem sco_eq : res_main_v109 V = scoA m c := by
  have hW := hV
  obtain ⟨a0, a1, a2, a3, a4, a5, a6, a7, a8, a9, a10, a12, a13, a14, a15, a16, a17, a18, a19, a20⟩ := hW
  rw [ref_v109, ref_v108, hid_eq m c V hV, a1, a2, a13, a14, a15, a16, rows_rep _ _ hsrc]
  rfl

theorem w_eq : wr V = wk m c := by unfold wr wk; rw [sco_eq m c V hV hsrc]

variable (T : Fin 131072 → Fin 4096)

theorem D_eq : Dr V T = Dk m c T := by unfold Dr Dk; rw [sco_eq m c V hV hsrc]

variable (hT : ∀ e : Fin 131072, (arg m c Cert.KernelIdeal.main_arg2 : IVec Cert.KernelIdeal.S131072 32) (ix1 e) = BitVec.ofNat 32 (T e).val)

include hT

theorem out_eq : outA (res_main_v123 V) (res_main_v130 V) (res_main_v184 V) (res_main_v140 V) (V Cert.ReferenceIdeal.main_arg20)
    = Cert.KernelIdeal.Gen.W43 m ρ c Cert.KernelIdeal.main_v225 := by
  have hW := hV
  obtain ⟨a0, a1, a2, a3, a4, a5, a6, a7, a8, a9, a10, a12, a13, a14, a15, a16, a17, a18, a19, a20⟩ := hW
  have hk := ker_out m ρ c T hT
  have hr := ref_out V T (fun n p => by rw [sco_eq m c V hV hsrc]; exact sco_bot m c n p)
    (fun e => by rw [a1]; exact hsrc e) (fun e => by rw [a2]; exact hT e)
  rw [D_eq m c V hV hsrc, w_eq m c V hV hsrc, s_eq m c V hV, t_eq m c V hV, x_eq m c V hV, b_eq m c V hV] at hr
  funext y
  idx_vars y
  obtain rfl := Subsingleton.elim y0 (0 : Fin 1)
  exact (hr y1 y2).trans (hk y1 y2).symm

theorem att_eq : attA (res_main_v217 V) = Cert.KernelIdeal.Gen.W43 m ρ c Cert.KernelIdeal.main_v226 := by
  have hW := hV
  obtain ⟨a0, a1, a2, a3, a4, a5, a6, a7, a8, a9, a10, a12, a13, a14, a15, a16, a17, a18, a19, a20⟩ := hW
  have hk := ker_att m ρ c T hT
  have hr := ref_att V T (fun n p => by rw [sco_eq m c V hV hsrc]; exact sco_bot m c n p)
    (fun e => by rw [a1]; exact hsrc e) (fun e => by rw [a2]; exact hT e)
  rw [D_eq m c V hV hsrc, w_eq m c V hV hsrc, s_eq m c V hV, t_eq m c V hV] at hr
  funext y
  idx_vars y
  obtain rfl := Subsingleton.elim y0 (0 : Fin 1)
  exact (hr y1 y2 y3).trans (hk y1 y2 y3).symm

end Agree

end Cert.Gnn

end
-- ==== Proof.lean ====
/- The certificate's claim: the three frames are the generated runs' (the reference is host operations alone and declares no
   semaphore), and the value claim joins the kernel program's run, read by its fold of host and kernel steps (`run_results`),
   with the reference's, its two results rewritten to the kernel program's by `out_eq` and `att_eq`. -/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.EdgesRead
public import proofs.«01_k».proof.Proof.KernelRun
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.TcCoe Idealize.ShloMosaic.StableHlo Idealize.SL.Sem Cert.Gnn

/-- The reference runs, keeps its arguments and leaves every counter at zero. -/
theorem frame_ref : Cert.quiescent_ReferenceIdeal := fun m ρ _ =>
  (θ_run (Cert.ReferenceIdeal.defs (F := Ideal)) _ _).mono
    (fun r h => ⟨fun c => (h c).2.2, sem_eq_zero_of_no_sems (by decide) r.2⟩)
    (Cert.ReferenceIdeal.Value.run (F := Ideal) m ρ)

/-- Over the extended reals the kernel program and the reference leave the same two results. -/
theorem algebraic : Cert.algebraic_KernelIdeal_ReferenceIdeal_pre_edges_in_range (hPre_edges_in_range := edgeFacts) := by
  intro m ρ m' ρ' hpre hagree
  refine ⟨fun c => Cert.KernelIdeal.Gen.W43 m ρ c Cert.KernelIdeal.main_v225, fun c => Cert.KernelIdeal.Gen.W43 m ρ c Cert.KernelIdeal.main_v226,
    Cert.KernelIdeal.Gen.run_results m ρ, ?_⟩
  refine (θ_run (Cert.ReferenceIdeal.defs (F := Ideal)) _ _).mono (fun r h c => ?_) (Cert.ReferenceIdeal.Value.run (F := Ideal) m' ρ')
  obtain ⟨a0, a1, a2, a3, a4, a5, a6, a7, a8, a9, a10, a11, a12, a13, a14, a15, a16, a17, a18, a19, a20⟩ := hagree c
  have hV : SameArgs m c (launchContents m' c) :=
    ⟨a0, a1, a2, a3, a4, a5, a6, a7, a8, a9, a10, a12, a13, a14, a15, a16, a17, a18, a19, a20⟩
  have hE := @edges_read edgeFacts m hpre c
  exact ⟨(h c).1.trans (out_eq m ρ c _ hV (fun e => (hE e).1) (fun e => ⟨_, (hE e).2⟩) (fun e => word_self _)),
    (h c).2.1.trans (att_eq m ρ c _ hV (fun e => (hE e).1) (fun e => ⟨_, (hE e).2⟩) (fun e => word_self _)), (h c).2.2⟩

theorem claim : Cert.Claim := ⟨Cert.Kernel.Gen.facts, Cert.KernelIdeal.Gen.facts, Cert.ReferenceIdeal.Gen.facts, edgeFacts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, algebraic⟩

end Cert.Proof

end
